-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x2048 : Shape := ⟨3, ![2, 8192, 2048]⟩
abbrev S32 : Shape := ⟨1, ![32]⟩
abbrev S2x256x2048 : Shape := ⟨3, ![2, 256, 2048]⟩
abbrev S1x256x2048 : Shape := ⟨3, ![1, 256, 2048]⟩
abbrev S256x2048 : Shape := ⟨2, ![256, 2048]⟩
abbrev S1 : Shape := ⟨1, ![1]⟩
abbrev S1x1x1 : Shape := ⟨3, ![1, 1, 1]⟩
abbrev S16 : Shape := ⟨1, ![16]⟩
abbrev S_ : Shape := ⟨0, ![]⟩

abbrev nBuf : Table → Nat
  | .hbm => 4
  | .local .tc .vmem => 6
  | .local .tc .smem => 2
  | .local .scVector .vmem => 2
  | _ => 0

abbrev bufTy : (tb : Table) → Fin (nBuf tb) → BufTy
  | .hbm, ⟨0, _⟩ => ⟨S2x8192x2048, .f32⟩
  | .hbm, ⟨1, _⟩ => ⟨S32, .f32⟩
  | .hbm, ⟨2, _⟩ => ⟨S16, .f32⟩
  | .hbm, ⟨3, _⟩ => ⟨S2x8192x2048, .f32⟩
  | .local .tc .vmem, ⟨0, _⟩ => ⟨S2x256x2048, .f32⟩
  | .local .tc .vmem, ⟨1, _⟩ => ⟨S2x256x2048, .f32⟩
  | .local .tc .vmem, ⟨2, _⟩ => ⟨S2x256x2048, .f32⟩
  | .local .tc .vmem, ⟨3, _⟩ => ⟨S2x256x2048, .f32⟩
  | .local .tc .vmem, ⟨4, _⟩ => ⟨S2x256x2048, .f32⟩
  | .local .tc .vmem, ⟨5, _⟩ => ⟨S2x256x2048, .f32⟩
  | .local .tc .smem, ⟨0, _⟩ => ⟨S32, .f32⟩
  | .local .tc .smem, ⟨1, _⟩ => ⟨S16, .f32⟩
  | .local .scVector .vmem, ⟨0, _⟩ => ⟨S32, .f32⟩
  | .local .scVector .vmem, ⟨1, _⟩ => ⟨S16, .f32⟩
  | _, _ => ⟨S2x8192x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_stg0_0 : Ref sig .tc := ⟨.vmem, 0, rfl⟩
abbrev cc0_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc0_stg1_0 : Ref sig .tc := ⟨.smem, 0, rfl⟩
abbrev cc2_stg0_0 : Ref sig .tc := ⟨.smem, 1, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc2_sem0_0 : DmaSem sig := 5
abbrev cc2_sem1_0 : DmaSem sig := 6
abbrev cc2_sem1_1 : DmaSem sig := 7
abbrev cc2_sem2_0 : DmaSem sig := 8
abbrev cc2_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def k0_off1 (i : grid0.Coords) : Fin 1 → Nat :=
  let arg0 : BitVec 32 := BitVec.ofNat 32 (i 0).val
  let v13 : Index := Scalar.indexCast arg0
  ![v13.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 16], ![false, false]⟩

abbrev grid2 : Pipeline.Grid := ⟨1, ![32], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 1 → Memref sig .tc .smem S16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2x256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2x256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x8192x2048 : Shape := ⟨3, ![2, 8192, 2048]⟩
abbrev S_ : Shape := ⟨0, ![]⟩
abbrev S8192x2048 : Shape := ⟨2, ![8192, 2048]⟩
abbrev S1x8192x2048 : Shape := ⟨3, ![1, 8192, 2048]⟩
abbrev S16777216 : Shape := ⟨1, ![16777216]⟩
abbrev S1 : Shape := ⟨1, ![1]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S_, .f32⟩
  | .hbm, ⟨3, _⟩ => ⟨S8192x2048, .f32⟩
  | .hbm, ⟨4, _⟩ => ⟨S1x8192x2048, .f32⟩
  | .hbm, ⟨5, _⟩ => ⟨S_, .f32⟩
  | .hbm, ⟨6, _⟩ => ⟨S1x8192x2048, .f32⟩
  | .hbm, ⟨7, _⟩ => ⟨S1x8192x2048, .f32⟩
  | .hbm, ⟨8, _⟩ => ⟨S16777216, .f32⟩
  | .hbm, ⟨9, _⟩ => ⟨S16777216, .f32⟩
  | .hbm, ⟨10, _⟩ => ⟨S1, .f32⟩
  | .hbm, ⟨11, _⟩ => ⟨S_, .f32⟩
  | .hbm, ⟨12, _⟩ => ⟨S1x8192x2048, .f32⟩
  | .hbm, ⟨13, _⟩ => ⟨S1x8192x2048, .i1⟩
  | .hbm, ⟨14, _⟩ => ⟨S1x8192x2048, .f32⟩
  | .hbm, ⟨15, _⟩ => ⟨S2x8192x2048, .f32⟩
  | .hbm, ⟨16, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Proof.Common.lean ====
/-
  What every module of this proof shares: the program as the SparseCore launch theorem sees it, the resource algebra
  (the handshakes' rounds, the two pipelines' rounds, the transfers' counters), and the names of the four HBM arrays.
-/
module

public import proofs.«01_k».proof.Defs
public import Idealize.ShloMosaic.Lib.SparseCore.Quiescent
public import Idealize.ShloMosaic.Lib.SparseCore.Ops
public import Idealize.ShloMosaic.Lib.Pipeline.Kit
public import Idealize.ShloMosaic.Lib.Pipeline.Regions
public import Idealize.ShloMosaic.Lib.Pipeline.RegionArrays
public import Idealize.ShloMosaic.Lib.Pipeline.DatRel
public import Idealize.ShloMosaic.Lib.Pipeline.Frame
public import Idealize.ShloMosaic.Lib.Pipeline.FrameBody
public import Idealize.ShloMosaic.Lib.Pipeline.ValueKit.Geometry
public import Idealize.ShloMosaic.Lib.Tactic
public import Idealize.ShloMosaic.Lib.Transfers
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.MaskMul

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The call labels under the SparseCore layer: the two pipelines and the kernel bodies. -/
abbrev ΛP : Labels := Pipeline.Sig Λ₀ (Fin 2) fun p => (pcfgs (F := F) p).Adm
/-- The SparseCore layer's configuration. -/
abbrev K : SparseCore.Cfg τ sig (ΛP (F := F)) 1 := sc (F := F)
/-- The definitions under the SparseCore layer. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and unscoped, no scalar SparseCore's buffer is shared with its tasks, and the
    one call is a vector call. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The SparseCore handshakes' rounds. -/
abbrev UH : Type := URounds (GSem nD τ sig) ℕ
/-- The two TensorCore pipelines' rounds. -/
abbrev UP : Type := URounds (GSem nD τ sig) Unit
/-- The certificate's algebra: the two kinds of rounds and the transfers' counters. -/
abbrev UU : Type := UH × (UP × Counters)

local notation "𝕄" => MT nD τ sig (HIx 1) (Elt F) ℕ UU ℕ

abbrev EH : Emb UH (MT nD τ sig (HIx 1) (Elt F) ℕ UU ℕ) := embL

/-- The pipelines' rounds are the middle component. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F)).LandsIn (upEmb : UEmb _ 𝕄) := by
  unfold EP; infer_instance

/-- A pair of elements, of the handshakes' rounds and of the pipelines', is owned as its two parts. -/
theorem ownU_parts (a : UH) (b : UP) :
    (ownU ((a, (b, 1)) : UU) : sProp 𝕄) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-! ## The arrays -/

/-- The argument, the block minima, the merged minimum and the result, as locations of device `d`. -/
abbrev xLoc (d : Dev nD) : Loc nD τ sig := (SparseCore.T d).loc main_arg0
abbrev pLoc (d : Dev nD) : Loc nD τ sig := (SparseCore.T d).loc main_v0
abbrev mLoc (d : Dev nD) : Loc nD τ sig := (SparseCore.T d).loc main_v1
abbrev oLoc (d : Dev nD) : Loc nD τ sig := (SparseCore.T d).loc main_v2

end Cert.Proof.MaskMul

end
-- ==== Proof.Body0.lean ====
/-
  The first pass's body, run once: at grid point `i` it reads the two planes of its block and sets entry `i` of the
  minima to the least of their mean magnitudes, leaving the other entries as they were.
-/
module

public import proofs.«01_k».proof.Proof.Common

@[expose] public section

noncomputable section

namespace Cert.Proof.MaskMul

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Plane `p` of a two-plane block. -/
def plane (x : S2x256x2048.Idx → Elt F .f32) (p : Fin 2) : Vec F S1x256x2048 .f32 :=
  fun j => x fun | 0 => p | 1 => j 1 | 2 => j 2

/-- The minima `y` with entry `i` set to the least mean magnitude of the block `x`. -/
def setMin (i : Fin 32) (x : S2x256x2048.Idx → Elt F .f32) (y : S32.Idx → Elt F .f32) : S32.Idx → Elt F .f32 :=
  fun j => if (j 0).val = i.val then k0_pay1 (plane x 0) (plane x 1) else y j

/-- A load of one plane of a block through a rectangle at that plane. -/
theorem read_plane {arg1 : Memref sig .tc .vmem S2x256x2048 .f32} {f1 : arg1.view.ty.Contents (Elt F)} {x : S2x256x2048.Idx → Elt F .f32}
    (hf : arg1.view.read (Elt F) f1 = x) (p : Fin 2) (off : Fin 3 → ℕ) (h : ∀ a, off a + S1x256x2048.size a ≤ S2x256x2048.size a)
    (hoff : off = ![p.val, 0, 0]) :
    arg1.view.readAt (Elt F) (Rect.unit (s := S2x256x2048) off S1x256x2048.size h).toLoadRect f1 = plane x p := by
  subst hf hoff
  funext j
  rw [View.readAt_apply]
  unfold plane
  congr 1
  funext a
  have h0 := (j 0).isLt
  refine Fin.ext ((ValueKit.rect_emb_unit_val _ _ h j a).trans ?_)
  match a with
  | 0 => change p.val + (j 0).val = p.val; change (j 0).val < 1 at h0; omega
  | 1 => exact Nat.zero_add _
  | 2 => exact Nat.zero_add _

/-- The one-entry rectangle of the minima at entry `i`: entry `j` lies under it exactly if `j` is `i`. -/
theorem read_setMin {arg2 : Memref sig .tc .smem S32 .f32} {f2 : arg2.view.ty.Contents (Elt F)} {y : S32.Idx → Elt F .f32}
    (hf : arg2.view.read (Elt F) f2 = y) (i : Fin 32) (off : Fin 1 → ℕ) (h : ∀ a, off a + S1.size a ≤ S32.size a)
    (hoff : off = ![i.val]) (v : Elt F .f32) :
    arg2.view.read (Elt F) (arg2.view.writes (Elt F) f2 [⟨Rect.unit (s := S32) off S1.size h, fun _ => v⟩])
      = fun j => if (j 0).val = i.val then v else y j := by
  subst hf hoff
  funext j
  change arg2.view.read (Elt F) ((arg2.view.slice (Rect.unit (s := S32) ![i.val] S1.size h)).write (Elt F) f2 (fun _ => v) Finset.univ) j = _
  by_cases hj : (j 0).val = i.val
  · rw [if_pos hj]
    have e : (Rect.unit (s := S32) ![i.val] S1.size h).emb (fun a => ⟨0, match a with | 0 => Nat.one_pos⟩) = j := by
      funext a
      refine Fin.ext ((ValueKit.rect_emb_unit_val _ _ h _ a).trans ?_)
      obtain rfl : a = 0 := Subsingleton.elim _ _
      exact hj.symm
    rw [← e, View.read_slice_write_emb _ _ _ (Finset.mem_univ _)]
  · rw [if_neg hj]
    refine View.read_slice_write_of_not_mem _ _ _ _ fun hm => hj ?_
    obtain ⟨x, -, rfl⟩ := Finset.mem_map.mp hm
    have := (x 0).isLt
    refine (ValueKit.rect_emb_unit_val _ _ h x 0).trans ?_
    change (x 0).val < 1 at this
    change i.val + (x 0).val = i.val; omega

/-- The body at grid point `i`, from a block `x` and minima `y`. -/
theorem body0_run (c : Dev nD) (i : grid0.Coords) (arg1 : Memref sig .tc .vmem S2x256x2048 .f32) (harg1 : arg1.IsWhole)
    (arg2 : Memref sig .tc .smem S32 .f32) (harg2 : arg2.IsWhole)
    (x : S2x256x2048.Idx → Elt F .f32) (y : S32.Idx → Elt F .f32) (Q : PUnit → sProp 𝕄) :
    iprop(owns (c : Thread nD τ) arg1 fullShare x ∗ owns (c : Thread nD τ) arg2 fullShare y
        ∗ (iprop(owns (c : Thread nD τ) arg1 fullShare x ∗ owns (c : Thread nD τ) arg2 fullShare (setMin (i 0) x y)) -∗ Q ⟨⟩))
      ⊢ wp frame (wpE (defs₀ (F := F)) 𝒱₀ c none) Set.univ (cc0__mag_min_body i arg1 harg1 arg2 harg2) Q := by
  simp only [cc0__mag_min_body_eq_skeleton]; unfold cc0__mag_min_body_skel
  unfold owns
  iintro ⟨⟨%f1, %hf1, H1⟩, ⟨%f2, %hf2, H2⟩, Hk⟩
  sl_exec
  sl_step
  iapply Hk
  isplitl [H1]
  · iexists f1; isplitr; swap; · iexact H1
    ipureintro; exact hf1
  iexists _; isplitr; swap; · iexact H2
  ipureintro
  rw [read_plane hf1 0 ![0, 0, 0] _ rfl, read_plane hf1 1 ![1, 0, 0] _ rfl]
  exact read_setMin hf2 (i 0) _ _ (k0_off1_eq i) _

end Cert.Proof.MaskMul

end
-- ==== Proof.Body2.lean ====
/-
  The second pass's body, run once: from the merged minimum and a two-plane block it stores, plane by plane, the block
  times the mask of the positions whose mean magnitude is at least the minimum.
-/
module

public import proofs.«01_k».proof.Proof.Body0

@[expose] public section

noncomputable section

namespace Cert.Proof.MaskMul

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A position of a two-plane block, within its plane. -/
def inPlane (j : S2x256x2048.Idx) : S1x256x2048.Idx := fun | 0 => ⟨0, Nat.one_pos⟩ | 1 => j 1 | 2 => j 2

/-- Entry 0 of the merged minimum. -/
def entry0 : S16.Idx := fun | 0 => ⟨0, Nat.succ_pos _⟩

/-- The block `x` times its mask at threshold `v`. -/
def masked (v : Elt F .f32) (x : S2x256x2048.Idx → Elt F .f32) : S2x256x2048.Idx → Elt F .f32 :=
  fun j => k2_pay2 v (plane x 0) (plane x 1) (plane x (j 0)) (inPlane j)

/-- Two stores, one per plane, read back: each plane's payload in its plane. -/
theorem read_planes {arg3 : Memref sig .tc .vmem S2x256x2048 .f32} (f3 : arg3.view.ty.Contents (Elt F))
    (w0 w1 : Vec F S1x256x2048 .f32) (j : S2x256x2048.Idx) :
    arg3.view.read (Elt F) (arg3.view.writes (Elt F) f3
        [⟨Rect.unit (s := S2x256x2048) ![1, 0, 0] S1x256x2048.size inb_S2x256x2048_S1x256x2048_1_0_0, w1⟩,
          ⟨Rect.unit (s := S2x256x2048) ![0, 0, 0] S1x256x2048.size inb_S2x256x2048_S1x256x2048_0_0_0, w0⟩]) j
      = (if (j 0).val = 0 then w0 else w1) (inPlane j) := by
  change arg3.view.read (Elt F) ((arg3.view.slice (Rect.unit (s := S2x256x2048) ![1, 0, 0] S1x256x2048.size inb_S2x256x2048_S1x256x2048_1_0_0)).write (Elt F)
    ((arg3.view.slice (Rect.unit (s := S2x256x2048) ![0, 0, 0] S1x256x2048.size inb_S2x256x2048_S1x256x2048_0_0_0)).write (Elt F) f3 w0 Finset.univ) w1 Finset.univ) j = _
  have hj := (j 0).isLt
  by_cases h0 : (j 0).val = 0
  · rw [if_pos h0, View.read_slice_write_of_not_mem]
    · have e : (Rect.unit (s := S2x256x2048) ![0, 0, 0] S1x256x2048.size inb_S2x256x2048_S1x256x2048_0_0_0).emb (inPlane j) = j := by
        funext a
        refine Fin.ext ((ValueKit.rect_emb_unit_val _ _ _ _ a).trans ?_)
        match a with
        | 0 => exact h0.symm
        | 1 => exact Nat.zero_add _
        | 2 => exact Nat.zero_add _
      conv_lhs => rw [← e]
      rw [View.read_slice_write_emb _ _ _ (Finset.mem_univ _)]
    · intro hm
      obtain ⟨x, -, rfl⟩ := Finset.mem_map.mp hm
      have e := ValueKit.rect_emb_unit_val _ _ inb_S2x256x2048_S1x256x2048_1_0_0 x 0
      have e' : (Rect.unit (s := S2x256x2048) ![1, 0, 0] S1x256x2048.size inb_S2x256x2048_S1x256x2048_1_0_0).emb x 0 = 1 + (x 0).val := e
      omega
  · rw [if_neg h0]
    have e : (Rect.unit (s := S2x256x2048) ![1, 0, 0] S1x256x2048.size inb_S2x256x2048_S1x256x2048_1_0_0).emb (inPlane j) = j := by
      funext a
      refine Fin.ext ((ValueKit.rect_emb_unit_val _ _ _ _ a).trans ?_)
      match a with
      | 0 => change (j 0).val < 2 at hj; change 1 + 0 = (j 0).val; omega
      | 1 => exact Nat.zero_add _
      | 2 => exact Nat.zero_add _
    conv_lhs => rw [← e]
    rw [View.read_slice_write_emb _ _ _ (Finset.mem_univ _)]

/-- The body at any grid point, from the merged minimum `y` and a block `x`. -/
theorem body2_run (c : Dev nD) (i : grid2.Coords) (arg1 : Memref sig .tc .smem S16 .f32) (harg1 : arg1.IsWhole)
    (arg2 : Memref sig .tc .vmem S2x256x2048 .f32) (harg2 : arg2.IsWhole) (arg3 : Memref sig .tc .vmem S2x256x2048 .f32) (harg3 : arg3.IsWhole)
    (y : S16.Idx → Elt F .f32) (x : S2x256x2048.Idx → Elt F .f32) (Q : PUnit → sProp 𝕄) :
    iprop(owns (c : Thread nD τ) arg1 fullShare y ∗ owns (c : Thread nD τ) arg2 fullShare x ∗ (∃ d, owns (c : Thread nD τ) arg3 fullShare d)
        ∗ (iprop(owns (c : Thread nD τ) arg1 fullShare y ∗ owns (c : Thread nD τ) arg2 fullShare x
            ∗ owns (c : Thread nD τ) arg3 fullShare (masked (y entry0) x)) -∗ Q ⟨⟩))
      ⊢ wp frame (wpE (defs₀ (F := F)) 𝒱₀ c none) Set.univ (cc2__mask_mul_body i arg1 harg1 arg2 harg2 arg3 harg3) Q := by
  simp only [cc2__mask_mul_body_eq_skeleton]; unfold cc2__mask_mul_body_skel
  unfold owns
  iintro ⟨⟨%f1, %hf1, H1⟩, ⟨%f2, %hf2, H2⟩, ⟨%d3, %f3, -, H3⟩, Hk⟩
  sl_exec
  sl_step
  iapply Hk
  isplitl [H1]
  · iexists f1; isplitr; swap; · iexact H1
    ipureintro; exact hf1
  isplitl [H2]
  · iexists f2; isplitr; swap; · iexact H2
    ipureintro; exact hf2
  iexists _; isplitr; swap; · iexact H3
  ipureintro
  have hr : body2_run.sl.r c arg1 f1 = y entry0 := by
    subst hf1
    unfold body2_run.sl.r
    rw [View.readAt_apply]
    congr 1
    funext a
    obtain rfl : a = 0 := Subsingleton.elim _ _
    refine Fin.ext ((ValueKit.rect_emb_unit_val _ _ inb_S16_S1_0 _ 0).trans ?_)
    exact (Nat.zero_add _).trans (Nat.lt_one_iff.mp (Fin.isLt (n := 1) _))
  rw [hr, read_plane hf2 0 ![0, 0, 0] _ rfl, read_plane hf2 1 ![1, 0, 0] _ rfl]
  funext j
  refine (read_planes f3 _ _ j).trans ?_
  unfold masked
  by_cases h0 : (j 0).val = 0
  · rw [if_pos h0, show j 0 = (0 : Fin 2) from Fin.ext h0]
  · have hj := (j 0).isLt
    change (j 0).val < 2 at hj
    rw [if_neg h0, show j 0 = (1 : Fin 2) from Fin.ext (show (j 0).val = 1 by omega)]
    rfl

end Cert.Proof.MaskMul

end
-- ==== Proof.Values.lean ====
/-
  The values the kernel computes, over any float values: the 32 block minima of the argument, the minimum merged from
  them, and the result.
-/
module

public import proofs.«01_k».proof.Proof.Body2

@[expose] public section

noncomputable section

namespace Cert.Proof.MaskMul

open Cert.KernelIdeal Cert.KernelIdeal.Gen

open Idealize.ShloMosaic
open Idealize.SL Idealize.SL.Sem

variable {F : FTy → Type} [FloatOps F]

/-- Position `j` of block `t`, in the array: the block is 256 consecutive rows of both planes. -/
def inBlock (t : Fin 32) (j : S2x256x2048.Idx) : S2x8192x2048.Idx
  | 0 => j 0
  | 1 => ⟨t.val * 256 + (j 1).val, by have := t.isLt; have := (j 1).isLt; change (j 1).val < 256 at this; change _ < 8192; omega⟩
  | 2 => j 2

/-- Block `t` of the array. -/
def block (g : S2x8192x2048.Idx → Elt F .f32) (t : Fin 32) : S2x256x2048.Idx → Elt F .f32 := fun j => g (inBlock t j)

/-- The block a position lies in, -/
def blockNo (j : S2x8192x2048.Idx) : Fin 32 :=
  ⟨(j 1).val / 256, by have := (j 1).isLt; change (j 1).val < 8192 at this; omega⟩
/-- and where it lies there. -/
def offBlock (j : S2x8192x2048.Idx) : S2x256x2048.Idx
  | 0 => j 0
  | 1 => ⟨(j 1).val % 256, Nat.mod_lt _ (by decide)⟩
  | 2 => j 2

theorem inBlock_offBlock (j : S2x8192x2048.Idx) : inBlock (blockNo j) (offBlock j) = j := by
  funext a
  match a with
  | 0 => rfl
  | 1 => exact Fin.ext (Nat.div_add_mod' (j 1).val 256)
  | 2 => rfl

theorem blockNo_inBlock (t : Fin 32) (j : S2x256x2048.Idx) : blockNo (inBlock t j) = t := by
  have := (j 1).isLt; change (j 1).val < 256 at this
  refine Fin.ext ?_
  change (t.val * 256 + (j 1).val) / 256 = t.val
  omega

theorem offBlock_inBlock (t : Fin 32) (j : S2x256x2048.Idx) : offBlock (inBlock t j) = j := by
  have := (j 1).isLt; change (j 1).val < 256 at this
  funext a
  match a with
  | 0 => rfl
  | 1 => refine Fin.ext ?_; change (t.val * 256 + (j 1).val) % 256 = (j 1).val; omega
  | 2 => rfl

/-- The block minima: entry `t` is the least mean magnitude of block `t`. -/
def minima (g : S2x8192x2048.Idx → Elt F .f32) : S32.Idx → Elt F .f32 :=
  fun j => k0_pay1 (plane (block g (j 0)) 0) (plane (block g (j 0)) 1)

/-- The first sixteen and the last sixteen of 32 entries. -/
def lowHalf (j : S16.Idx) : S32.Idx := fun | 0 => ⟨(j 0).val, by have := (j 0).isLt; change (j 0).val < 16 at this; change _ < 32; omega⟩
def highHalf (j : S16.Idx) : S32.Idx := fun | 0 => ⟨16 + (j 0).val, by have := (j 0).isLt; change (j 0).val < 16 at this; change _ < 32; omega⟩

/-- The minimum merged from 32 entries, in each of sixteen. -/
def merged (y : S32.Idx → Elt F .f32) : S16.Idx → Elt F .f32 :=
  k1_pay1 (k1_pay2 (fun j => y (lowHalf j)) (fun j => y (highHalf j)))

/-- The result: each block times its mask at the merged minimum. -/
def result (g : S2x8192x2048.Idx → Elt F .f32) : S2x8192x2048.Idx → Elt F .f32 :=
  fun j => masked (merged (minima g) entry0) (block g (blockNo j)) (offBlock j)

theorem result_inBlock (g : S2x8192x2048.Idx → Elt F .f32) (t : Fin 32) (j : S2x256x2048.Idx) :
    result g (inBlock t j) = masked (merged (minima g) entry0) (block g t) j := by
  unfold result; rw [blockNo_inBlock, offBlock_inBlock]

end Cert.Proof.MaskMul

end
-- ==== Proof.Merge.lean ====
/-
  The SparseCore's part: task (0, 0) copies the 32 minima into its scratch, merges them, and copies the sixteen entries
  of the result out; every other task returns at once. The task is run once, at a symbolic pair of SparseCore and tile.
-/
module

public import proofs.«01_k».proof.Proof.Values

@[expose] public section

noncomputable section

namespace Cert.Proof.MaskMul

open Cert.KernelIdeal Cert.KernelIdeal.Gen

open Idealize.ShloMosaic Idealize.ShloMosaic.Tactic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "pV" => (Memref.whole Cert.KernelIdeal.main_v0_scv : Memref Cert.KernelIdeal.sig Kind.scVector Space.hbm Cert.KernelIdeal.S32 EltTy.f32)
local notation "mV" => (Memref.whole Cert.KernelIdeal.main_v1_scv : Memref Cert.KernelIdeal.sig Kind.scVector Space.hbm Cert.KernelIdeal.S16 EltTy.f32)
local notation "aV" => (Memref.whole Cert.KernelIdeal.cc1_scratch0 : Memref Cert.KernelIdeal.sig Kind.scVector Space.vmem Cert.KernelIdeal.S32 EltTy.f32)
local notation "bV" => (Memref.whole Cert.KernelIdeal.cc1_scratch1 : Memref Cert.KernelIdeal.sig Kind.scVector Space.vmem Cert.KernelIdeal.S16 EltTy.f32)

/-- The minima, and the merged minimum, held whole. -/
abbrev pPts (d : Dev nD) (y : Buf (Elt F) (pLoc d)) : sProp 𝕄 := pLoc d ↦{fullShare} y
abbrev mPts (d : Dev nD) (z : Buf (Elt F) (mLoc d)) : sProp 𝕄 := mLoc d ↦{fullShare} z

/-- `A` if `b`, else nothing. -/
def onlyIf (b : Prop) [Decidable b] (A : sProp 𝕄) : sProp 𝕄 := if b then A else iprop(emp)

instance onlyIf_storable (b : Prop) [Decidable b] (A : sProp 𝕄) [BI.Storable (upEmb : UEmb _ 𝕄) A] :
    BI.Storable (upEmb : UEmb _ 𝕄) (onlyIf b A) := by
  unfold onlyIf; split <;> infer_instance

/-- Nothing, over and over, is nothing. -/
theorem bigSep_nothing {I : Type} (s : Finset I) : (bigSep s fun _ => (iprop(emp) : sProp 𝕄)) = iprop(emp) := bigSep_emp_const s

/-- Over a finite range, `A` at one place and nothing elsewhere is `A`. -/
theorem bigSep_onlyAt {n : ℕ} (a : Fin n) (A : sProp 𝕄) : (bigSep Finset.univ fun i : Fin n => onlyIf (i = a) A) = A := by
  rw [SparseCore.bigSep_erase' (Finset.mem_univ a)]
  rw [show (bigSep (Finset.univ.erase a) fun i : Fin n => onlyIf (i = a) A) = bigSep (Finset.univ.erase a) fun _ => (iprop(emp) : sProp 𝕄) from
    bigSep_congr fun i hi => if_neg (Finset.ne_of_mem_erase hi), bigSep_nothing, show onlyIf (a = a) A = A from if_pos rfl]
  exact Entails.antisymm sep_emp.1 sep_emp.2

/-! ## What the handshakes carry -/

section Pay

variable (m : (ℓ : Loc nD τ sig) → Buf (Elt F) ℓ)

/-- What task (0, 0) is given: the minima, and the merged minimum's array as launched; -/
abbrev given (d : Dev nD) : sProp 𝕄 := iprop(pPts d (minima (m (xLoc d))) ∗ mPts d (m (mLoc d)))
/-- and what it brings back: the minima as they were, their minimum merged. -/
abbrev brought (d : Dev nD) : sProp 𝕄 := iprop(pPts d (minima (m (xLoc d))) ∗ mPts d (merged (minima (m (xLoc d)))))

/-- The call carries the two arrays to SparseCore 0 and its tile 0, and back. -/
def P : (K (F := F)).Pay (nD := nD) (Val := Elt F) (Name := ℕ) (U := UU) where
  st := fun q d c => match q with | 0 => onlyIf (c.val = 0) (given m d)
  dn := fun q d c => match q with | 0 => onlyIf (c.val = 0) (brought m d)
  go := fun q d c i => match q with | 0 => onlyIf (c.val = 0 ∧ i.val = 0) (given m d)
  td := fun q d c i => match q with | 0 => onlyIf (c.val = 0 ∧ i.val = 0) (brought m d)
  x := fun _ _ => iprop(emp)

instance P_storable : (P (F := F) m).IsStorable where
  st q d c := match q with | 0 => (inferInstance : BI.Storable (upEmb : UEmb _ 𝕄) (onlyIf (c.val = 0) (given m d)))
  dn q d c := match q with | 0 => (inferInstance : BI.Storable (upEmb : UEmb _ 𝕄) (onlyIf (c.val = 0) (brought m d)))
  go q d c i := match q with | 0 => (inferInstance : BI.Storable (upEmb : UEmb _ 𝕄) (onlyIf (c.val = 0 ∧ i.val = 0) (given m d)))
  td q d c i := match q with | 0 => (inferInstance : BI.Storable (upEmb : UEmb _ 𝕄) (onlyIf (c.val = 0 ∧ i.val = 0) (brought m d)))

end Pay

/-! ## The task -/

section Tile

variable (d : Dev nD) (L : grid1.Coords)

abbrev cV (L : grid1.Coords) : Fin τ.nSC := (L 0).castLE hcore1
abbrev jV (L : grid1.Coords) : Fin τ.nSub := (L 1).castLE hsub1

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

theorem pts_pV (f : Buf (Elt F) (pLoc d)) : ((pV).view.loc (V d (cV L) (jV L)) ↦{fullShare} f : sProp 𝕄) = pLoc d ↦{fullShare} f := rfl
theorem pts_mV (f : Buf (Elt F) (mLoc d)) : ((mV).view.loc (V d (cV L) (jV L)) ↦{fullShare} f : sProp 𝕄) = mLoc d ↦{fullShare} f := rfl
theorem pts_aV (f : Buf (Elt F) ((V d (cV L) (jV L)).loc cc1_scratch0)) :
    ((aV).view.loc (V d (cV L) (jV L)) ↦{fullShare} f : sProp 𝕄) = (V d (cV L) (jV L)).loc cc1_scratch0 ↦{fullShare} f := rfl
theorem pts_bV (f : Buf (Elt F) ((V d (cV L) (jV L)).loc cc1_scratch1)) :
    ((bV).view.loc (V d (cV L) (jV L)) ↦{fullShare} f : sProp 𝕄) = (V d (cV L) (jV L)).loc cc1_scratch1 ↦{fullShare} f := rfl

/-- The two copies' semaphores are among the tile's own. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩)]

/-- The two scratch buffers are among the tile's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The task's test passes exactly on SparseCore 0's tile 0. -/
theorem isFirst_iff (a : Fin 2) (b : Fin 16) :
    (Scalar.cmpi .ne (Scalar.extui (Scalar.andi (Scalar.cmpi .eq (BitVec.ofNat 32 a.val) 0#32) (Scalar.cmpi .eq (BitVec.ofNat 32 b.val) 0#32)) : BitVec 32) 0#32 : BitVec 1) = 1#1
      ↔ a.val = 0 ∧ b.val = 0 := by
  revert a b; decide

/-- A store of all sixteen entries of a buffer is what it then holds. -/
theorem read_store_all {M : Memref sig .scVector .vmem S16 .f32} (f : M.view.ty.Contents (Elt F)) (w : S16.Idx → Elt F .f32)
    (h : ∀ a, (![0] : Fin 1 → ℕ) a + (![16] : Fin 1 → ℕ) a ≤ S16.size a) :
    M.view.read (Elt F) (M.view.writes (Elt F) f [⟨Rect.unit (s := S16) ![0] ![16] h, w⟩]) = w := by
  funext j
  have e : (Rect.unit (s := S16) ![0] ![16] h).emb j = j := by
    funext a
    refine Fin.ext ((ValueKit.rect_emb_unit_val _ _ h j a).trans ?_)
    match a with
    | 0 => exact Nat.zero_add _
  conv_lhs => rw [← e]
  exact View.read_slice_write_emb (v := M.view) (Rect.unit (s := S16) ![0] ![16] h) f w (Finset.mem_univ j)

/-- A load of sixteen of the 32 entries starting at `n`. -/
theorem read_sixteen (y : S32.Idx → Elt F .f32) (n : ℕ) (off : Fin 1 → ℕ) (h : ∀ a, off a + S16.size a ≤ S32.size a) (hoff : off = ![n])
    (hn : n + 16 ≤ 32) :
    (aV).view.readAt (Elt F) (Rect.unit (s := S32) off S16.size h).toLoadRect y
      = fun j => y fun | 0 => ⟨n + (j 0).val, by have := (j 0).isLt; change (j 0).val < 16 at this; change _ < 32; omega⟩ := by
  subst hoff
  funext j
  rw [View.readAt_apply]
  change y _ = y _
  congr 1
  funext a
  refine Fin.ext ((ValueKit.rect_emb_unit_val _ _ h j a).trans ?_)
  match a with
  | 0 => rfl

/-- The task, from the minima `y` and any merged minimum. -/
theorem tile_body (hF : (K (F := F)).Facts) (y : Buf (Elt F) (pLoc d)) (z : Buf (Elt F) (mLoc d))
    (O : CellTallies nD τ sig (HIx 1)) (W : Waits sig (HIx 1)) (hO : ∀ g, O g none = 0) :
    iprop(levAts (K (F := F)).L (K (F := F)).lev ∗ emp
        ∗ onlyIf ((L 0).val = 0 ∧ (L 1).val = 0) iprop(pPts d y ∗ mPts d z)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_merge L pV (Memref.isWhole_whole _) mV (Memref.isWhole_whole _)
            aV (Memref.isWhole_whole _) bV (Memref.isWhole_whole _) cc1_scoped0 cc1_scoped1)
          fun _ => iprop(onlyIf ((L 0).val = 0 ∧ (L 1).val = 0) iprop(pPts d y ∗ mPts d (merged y))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_merge_eq_skeleton, k1_part1_eq_skeleton]; unfold cc1__sc_merge_skel
  by_cases hL : (L 0).val = 0 ∧ (L 1).val = 0
  · have hc := (isFirst_iff (L 0) (L 1)).mpr hL
    simp only [onlyIf, if_pos hL]
    rw [(K (F := F)).scopedBufs_V hF d (cV L) (jV L), SparseCore.Cfg.scopedSems0_V (Val := Elt F) d (cV L) (jV L), ownSems0_V, ownBufs_V]
    iintro ⟨#Hlv, -, ⟨Hp, Hm⟩, ⟨⟨%fa, Ha⟩, ⟨%fb, Hb⟩, Hbufs⟩, ⟨HsemA, HsemB, Hsems⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    ihave Hp' := (Entails.of_eq (pts_pV (F := F) d L _).symm) $$ Hp
    ihave Hm' := (Entails.of_eq (pts_mV (F := F) d L _).symm) $$ Hm
    ihave Ha' := (Entails.of_eq (pts_aV (F := F) d L _).symm) $$ Ha
    ihave Hb' := (Entails.of_eq (pts_bV (F := F) d L _).symm) $$ Hb
    sl_exec
    sl_step
    have hv : View.write (Elt F) (mV).view z (tile_body.sl.dma4 d L y fa fb) Finset.univ = merged y := by
      rw [View.write_whole_univ]
      unfold tile_body.sl.dma4 tile_body.sl.Hb'_1
      have hr : tile_body.sl.r d L y fa = k1_pay2 (fun j => y (lowHalf j)) (fun j => y (highHalf j)) := by
        unfold tile_body.sl.r
        rw [View.write_whole_univ, show tile_body.sl.dma0 d y = y from rfl, read_sixteen y 0 ![0] _ rfl (by decide),
          read_sixteen y 16 ![16] _ rfl (by decide)]
        congr 1
        funext j
        congr 1
        funext a
        match a with
        | 0 => exact Fin.ext (Nat.zero_add _)
      rw [hr]
      exact read_store_all (M := bV) fb _ inb_S16_S16_0
    isplitl [Hp' Hm']
    · isplitl [Hp']; · iapply (Entails.of_eq (pts_pV (F := F) d L _)); iexact Hp'
      iapply (Entails.of_eq ((congrArg (fun f => (mLoc d ↦{fullShare} f : sProp 𝕄)) hv))); iexact Hm'
    isplitl [Ha' Hb' Hbufs]
    · isplitl [Ha']; · iexists _; iexact Ha'
      isplitl [Hb']; · iexists _; iexact Hb'
      iexact Hbufs
    isplitl [HsemA HsemB Hsems]
    · isplitl [HsemA]; · iexact HsemA
      isplitl [HsemB]; · iexact HsemB
      iexact Hsems
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  · have hc := mt (isFirst_iff (L 0) (L 1)).mp hL
    simp only [onlyIf, if_neg hL]
    iintro ⟨-, -, -, Hbufs, Hsems, HO⟩
    sl_exec
    sl_step
    isplitr; · iempintro
    isplitl [Hbufs]; · iexact Hbufs
    isplitl [Hsems]; · iexact Hsems
    iexists W; isplitr
    · ipureintro; exact fun p hp => .inl hp
    · iexact HO

end Tile

end Cert.Proof.MaskMul

end
-- ==== Proof.MergeCall.lean ====
/-
  The SparseCore call as the launch takes it: each task meets its obligation, and the two arrays go to SparseCore 0 and
  on to its tile 0, and come back the same way.
-/
module

public import proofs.«01_k».proof.Proof.Merge

@[expose] public section

noncomputable section

namespace Cert.Proof.MaskMul

open Cert.KernelIdeal Cert.KernelIdeal.Gen

open Idealize.ShloMosaic Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-- The grid point of SparseCore `c` and tile `s`. -/
def coordsOf (c : Fin (grid1.bound 0)) (s : Fin (grid1.bound 1)) : grid1.Coords :=
  fun | 0 => c | 1 => s | ⟨_ + 2, h⟩ => absurd h (Nat.not_lt.2 (Nat.le_add_left _ _))

/-- What a tile runs for the call: the task at its grid point. -/
theorem tile_row (c : Fin τ.nSC) (s : Fin τ.nSub) :
    defs₀ (F := F) (.scVector c s) 1 ()
      = SparseCore.onTile hcore1 hsub1 (fun c s => cc1__sc_merge (coordsOf c s)
          (Memref.whole main_v0_scv) (Memref.isWhole_whole _) (Memref.whole main_v1_scv) (Memref.isWhole_whole _)
          (Memref.whole cc1_scratch0) (Memref.isWhole_whole _) (Memref.whole cc1_scratch1) (Memref.isWhole_whole _)
          cc1_scoped0 cc1_scoped1) ⟨⟩ c s := rfl

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [tile_row]; simp only [SparseCore.onTile, hci, and_self, ↓reduceDIte]
  refine (tile_body d (coordsOf ⟨_, hci.1⟩ ⟨_, hci.2⟩) facts (minima (m (xLoc d))) (m (mLoc d)) O W hO).trans (wp_mono frame _ _ fun _ => ?_)
  change iprop((P m).td 0 d c i ∗ _ ∗ _ ∗ _) ⊢ _
  -- the waits the task adds are at index `none`
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Over the sixteen tiles of SparseCore `c`, `A` at (0, 0) alone is `A` if `c` is 0. -/
theorem bigSep_tiles (c : ℕ) (A : sProp 𝕄) :
    (bigSep Finset.univ fun i : Fin ((K (F := F)).nSub 0) => onlyIf (c = 0 ∧ i.val = 0) A) = onlyIf (c = 0) A := by
  by_cases hc : c = 0
  · refine Eq.trans (bigSep_congr fun i _ => ?_) ((bigSep_onlyAt (⟨0, Nat.succ_pos 15⟩ : Fin ((K (F := F)).nSub 0)) A).trans (if_pos hc).symm)
    unfold onlyIf
    exact if_congr ⟨fun h => Fin.ext h.2, fun h => ⟨hc, congrArg Fin.val h⟩⟩ rfl rfl
  · refine Eq.trans (bigSep_congr fun i _ => (if_neg fun h => hc h.1 : onlyIf (c = 0 ∧ i.val = 0) A = iprop(emp))) ?_
    rw [bigSep_nothing]; exact (if_neg hc).symm

/-- Over the two SparseCores, `A` at 0 alone is `A`. -/
theorem bigSep_cores (A : sProp 𝕄) :
    (bigSep Finset.univ fun c : Fin ((K (F := F)).nCore 0) => onlyIf (c.val = 0) A) = A := by
  refine Eq.trans (bigSep_congr fun c _ => ?_) (bigSep_onlyAt (⟨0, Nat.succ_pos 1⟩ : Fin ((K (F := F)).nCore 0)) A)
  unfold onlyIf
  exact if_congr ⟨fun h => Fin.ext h, fun h => congrArg Fin.val h⟩ rfl rfl

theorem vecSplit : (K (F := F)).VecSplit' (P m) 0 := by
  intro d c
  show onlyIf (c.val = 0) (given m d) ⊢ |={Set.univ}=> iprop(
      (bigSep Finset.univ fun i : Fin ((K (F := F)).nSub 0) => onlyIf (c.val = 0 ∧ i.val = 0) (given m d))
      ∗ ((bigSep Finset.univ fun i : Fin ((K (F := F)).nSub 0) => onlyIf (c.val = 0 ∧ i.val = 0) (brought m d))
          -∗ onlyIf (c.val = 0) (brought m d)))
  rw [bigSep_tiles, bigSep_tiles]
  iintro H; imodintro
  isplitl [H]; · iexact H
  iintro H; iexact H

/-- What the TensorCore gives the call and takes back. -/
theorem st0_eq (d : Dev nD) : (bigSep Finset.univ fun c : Fin ((K (F := F)).nCore 0) => (P m).st 0 d c) = given m d := bigSep_cores _
theorem dn0_eq (d : Dev nD) : (bigSep Finset.univ fun c : Fin ((K (F := F)).nCore 0) => (P m).dn 0 d c) = brought m d := bigSep_cores _

end Cert.Proof.MaskMul

end
-- ==== Proof.Pass1.lean ====
/-
  The first pass as a pipeline: its proof data — at each point the argument's block is kept and one entry of the minima
  is set —, its body's obligation, and what the minima's array holds at the end.
-/
module

public import proofs.«01_k».proof.Proof.Values
public import Idealize.ShloMosaic.Lib.Pipeline.ArrRel

@[expose] public section

noncomputable section

namespace Cert.Proof.MaskMul

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig (HIx 1) (Elt F) ℕ UU ℕ

/-- The waits a TensorCore may have recorded by its `n`-th SparseCore call: none above that call's level. -/
def recordedBy (c : Dev nD) (n : ℕ) : Set (SemLoc sig × HIx 1) :=
  {p | (K (F := F)).lev ((c : Thread nD τ), p.1) p.2 ≤ 8 * n}

/-- The first pass's proof data on core `c`, from the argument `g` and any first contents `y` of the minima. -/
def rdat1 (c : Dev nD) (g : Buf (Elt F) (xLoc c)) (y : Buf (Elt F) (pLoc c)) : RDat τ (Elt F) (HIx 1) ℕ UU ℕ cfg0 c where
  A w := match w with | 0 => g | 1 => y
  after w t Y X := match w with | 0 => X = Y | 1 => X = setMin (t.cast N_0) (block g (t.cast N_0)) Y
  Φ _ := Pipeline.scopedRest (Ix := HIx 1) (Name := ℕ) (U := UU) (Lvl := ℕ) (Val := Elt F) spec0 c
  q _ := fullShare
  owed _ := (K (F := F)).Otc c 0
  recorded _ := recordedBy (F := F) c 0

variable (c : Dev nD) (g : Buf (Elt F) (xLoc c)) (y : Buf (Elt F) (pLoc c))

theorem index1_0 : ∀ t : Fin cfg0.N, win0_0.index t = ![0, (grid0.coords t 0).val, 0] :=
  (by decide +kernel : ∀ t : Fin grid0.N, _)
theorem coords1 : ∀ t : Fin cfg0.N, (grid0.coords t 0).val = t.val :=
  (by decide +kernel : ∀ t : Fin grid0.N, _)

/-- The fetch at point `t` brings block `t` of the argument, -/
theorem fetched1 (t : Fin cfg0.N) (d : (cfg0.win 0).block.Idx → Elt F (cfg0.win 0).elt) :
    (rdat1 c g y).fetched 0 t d = block g (t.cast N_0) := by
  funext j
  have hm : (cfg0.win 0).moved (cfg0.grid.coords t) j = true := ((cfg0.win 0).moved_iff _ j).mpr fun a => (j a).isLt
  unfold RDat.fetched Pipeline.Window.fill
  rw [dif_pos hm]
  change g ((win0_0.blk t).view.emb j) = g (inBlock (t.cast N_0) j)
  congr 1
  funext a
  refine Fin.ext ?_
  match a with
  | 0 => blk_simp [index1_0]; rfl
  | 1 => blk_simp [index1_0, coords1]; rfl
  | 2 => blk_simp [index1_0]; rfl

/-- which the body finds there. -/
theorem finds1 (t : Fin cfg0.N) (X) (h : (rdat1 c g y).Finds 0 t X) : X = block g (t.cast N_0) := by
  obtain ⟨d, rfl⟩ := ((rdat1 c g y).finds_of_fetch (fetch0_0 t) X).mp h
  exact fetched1 c g y t d

theorem fetch1_1 (t : Fin cfg0.N) : (cfg0.win 1).fetch t = false := rfl
theorem flush1_1 (t : Fin cfg0.N) : (cfg0.win 1).flush t = true ↔ t.val = 31 := by
  have : t.val < 32 := t.isLt
  refine (flush0_1 t).trans ⟨fun h => by omega, fun h => by omega⟩

/-- What the body leaves at point `t` has the first `t + 1` minima. -/
theorem leaves1 (n : ℕ) : ∀ (t : Fin cfg0.N) (_ : t.val = n) (X) (_ : (rdat1 c g y).Leaves 1 t X) (j : S32.Idx),
    (j 0).val ≤ n → X j = minima g j := by
  induction n with
  | zero =>
    rintro t ht X ⟨Y, -, rfl⟩ j hj
    change setMin _ _ _ _ = _
    unfold setMin minima
    have e : (j 0 : Fin 32) = t.cast N_0 := Fin.ext (by change (j 0).val = t.val; omega)
    rw [if_pos (congrArg Fin.val e)]; rw [e]
  | succ n ih =>
    rintro t ht X ⟨Y, hY, rfl⟩ j hj
    change setMin _ _ _ _ = _
    unfold setMin minima
    by_cases e : (j 0 : Fin 32) = t.cast N_0
    · rw [if_pos (congrArg Fin.val e)]; rw [e]
    · rw [if_neg fun h => e (Fin.ext h)]
      have hv : (j 0).val ≠ t.val := fun h => e (Fin.ext h)
      rcases ((rdat1 c g y).finds_of_pos (fetch1_1 t) (by omega) Y).mp hY with h | h
      · have h1 := (flush1_1 _).mp h; have h2 : t.val < 32 := t.isLt; change t.val - 1 = 31 at h1; omega
      · exact ih _ (by simp only; omega) Y h j (by omega)

/-- What the minima's array holds at the end. -/
theorem arr1 [∀ e, Nonempty (Elt F e)] (G) (h : (rdat1 c g y).ArrAt 1 cfg0.N G) : G = minima g := by
  obtain ⟨X, hX, hj⟩ := h.emb_eq_of_wholeAt (t₀ := ⟨31, by decide⟩) (by decide +kernel)
  funext j
  exact (hj j).trans (leaves1 c g y 31 _ rfl X hX j (Nat.le_of_lt_succ (j 0).isLt))

/-- The body's obligation. -/
theorem body_obligation1 : (rdat1 c g y).BodyObligation (Ix := HIx 1) (Name := ℕ) (U := UU) (Lvl := ℕ) defs₀ 𝒱₀ none Set.univ := by
  intro t Y hY
  have e0 := finds1 c g y t (Y 0) (hY 0)
  simp only [bigSep_W0]
  rw [show defs₀ .tc cfg0.body (cfg0.bodyArgs t (cfg0.slots t)) = bodyAt0 t from rfl]
  iintro ⟨HΦ, HO, H0, H1⟩
  iapply (body0_run c (grid0.coords t) (st0_0 t) _ (st0_1 t) _ (Y 0) (Y 1)) $$ [H0 H1 HΦ HO]
  isplitl [H0]
  · iexact H0
  isplitl [H1]
  · iexact H1
  iintro ⟨H0, H1⟩
  isplitl [HΦ]
  · iapply (show (rdat1 c g y).Φ t.castSucc ⊢ (rdat1 c g y).Φ t.succ from Entails.rfl) $$ HΦ
  isplitl [HO]
  · iapply (show (rdat1 c g y).owesAt (Ix := HIx 1) none t.castSucc ⊢ (rdat1 c g y).owesAt none t.succ from Entails.rfl) $$ HO
  isplitl [H0]
  · iexists (Y 0)
    isplitr
    · ipureintro; rfl
    · iexact H0
  · iexists (setMin (grid0.coords t 0) (Y 0) (Y 1))
    isplitr
    · ipureintro
      change setMin (grid0.coords t 0) (Y 0) (Y 1) = setMin (t.cast N_0) (block g (t.cast N_0)) (Y 1)
      rw [e0, show grid0.coords t 0 = t.cast N_0 from Fin.ext (coords1 t)]
    · iexact H1

end Cert.Proof.MaskMul

end
-- ==== Proof.Pass2.lean ====
/-
  The second pass as a pipeline: its proof data — the minimum and the argument's block are kept, and the masked block is
  left in the result's —, its body's obligation, and what the result's array holds at the end.
-/
module

public import proofs.«01_k».proof.Proof.Pass1

@[expose] public section

noncomputable section

namespace Cert.Proof.MaskMul

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig (HIx 1) (Elt F) ℕ UU ℕ

/-- The second pass's proof data on core `c`, from the minimum `v`, the argument `g` and any first contents `o` of the
    result. -/
def rdat2 (c : Dev nD) (v : Buf (Elt F) (mLoc c)) (g : Buf (Elt F) (xLoc c)) (o : Buf (Elt F) (oLoc c)) :
    RDat τ (Elt F) (HIx 1) ℕ UU ℕ cfg2 c where
  A w := match w with | 0 => v | 1 => g | 2 => o
  after w t Y X := match w with | 0 => X = Y | 1 => X = Y | 2 => X = masked (v entry0) (block g (t.cast N_2))
  Φ _ := Pipeline.scopedRest (Ix := HIx 1) (Name := ℕ) (U := UU) (Lvl := ℕ) (Val := Elt F) spec2 c
  q _ := fullShare
  owed _ := (K (F := F)).Otc c 1
  recorded _ := recordedBy (F := F) c 1

variable (c : Dev nD) (v : Buf (Elt F) (mLoc c)) (g : Buf (Elt F) (xLoc c)) (o : Buf (Elt F) (oLoc c))

theorem index2_0 : ∀ t : Fin cfg2.N, win2_0.index t = ![0] :=
  (by decide +kernel : ∀ t : Fin grid2.N, _)
theorem index2_1 : ∀ t : Fin cfg2.N, win2_1.index t = ![0, (grid2.coords t 0).val, 0] :=
  (by decide +kernel : ∀ t : Fin grid2.N, _)
theorem index2_2 : ∀ t : Fin cfg2.N, win2_2.index t = ![0, (grid2.coords t 0).val, 0] :=
  (by decide +kernel : ∀ t : Fin grid2.N, _)
theorem coords2 : ∀ t : Fin cfg2.N, (grid2.coords t 0).val = t.val :=
  (by decide +kernel : ∀ t : Fin grid2.N, _)

/-- Where block `t` of the argument lies, -/
theorem emb2_1 (t : Fin cfg2.N) (j) : (win2_1.blk t).view.emb j = inBlock (t.cast N_2) j := by
  funext a
  refine Fin.ext ?_
  match a with
  | 0 => blk_simp [index2_1]; rfl
  | 1 => blk_simp [index2_1, coords2]; rfl
  | 2 => blk_simp [index2_1]; rfl

/-- and of the result. -/
theorem emb2_2 (t : Fin cfg2.N) (j) : (win2_2.blk t).view.emb j = inBlock (t.cast N_2) j := by
  funext a
  refine Fin.ext ?_
  match a with
  | 0 => blk_simp [index2_2]; rfl
  | 1 => blk_simp [index2_2, coords2]; rfl
  | 2 => blk_simp [index2_2]; rfl

/-- The body finds the minimum at every point, -/
theorem finds2_0 [∀ e, Nonempty (Elt F e)] (t : Fin cfg2.N) (X) (h : (rdat2 c v g o).Finds 0 t X) : X = v := by
  obtain ⟨d, rfl⟩ := (rdat2 c v g o).finds_in_eq_fetched 0 rfl (fun _ _ _ => rfl) (fun _ _ _ h => h) t X h
  funext j
  have hm : (cfg2.win 0).moved (cfg2.grid.coords t) j = true := ((cfg2.win 0).moved_iff _ j).mpr fun a => (j a).isLt
  unfold RDat.fetched Pipeline.Window.fill
  rw [dif_pos hm]
  change v ((win2_0.blk t).view.emb j) = v j
  congr 1
  funext a
  refine Fin.ext ?_
  match a with
  | 0 => blk_simp [index2_0]

/-- and the argument's block. -/
theorem finds2_1 (t : Fin cfg2.N) (X) (h : (rdat2 c v g o).Finds 1 t X) : X = block g (t.cast N_2) := by
  obtain ⟨d, rfl⟩ := ((rdat2 c v g o).finds_of_fetch (fetch2_1 t) X).mp h
  funext j
  have hm : (cfg2.win 1).moved (cfg2.grid.coords t) j = true := ((cfg2.win 1).moved_iff _ j).mpr fun a => (j a).isLt
  unfold RDat.fetched Pipeline.Window.fill
  rw [dif_pos hm]
  exact congrArg g (emb2_1 t j)

/-- What the result's array holds at the end: each block times its mask at the minimum. -/
theorem arr2 [∀ e, Nonempty (Elt F e)] (G) (h : (rdat2 c v g o).ArrAt 2 cfg2.N G) :
    G = fun j => masked (v entry0) (block g (blockNo j)) (offBlock j) := by
  obtain ⟨X, hX, hG⟩ := h.exists_exact
  rw [hG (Function.update (fun _ _ _ => Classical.arbitrary _) 2 X) fun u _ _ => by rw [Function.update_self]]
  refine Pipeline.Dat.arrAt_eq_of_covers _ 2 _ (by decide +kernel) fun t hf j => ?_
  obtain ⟨Y, -, e⟩ := hX t t.isLt hf
  have e' : X t = masked (v entry0) (block g (t.cast N_2)) := e
  rw [RDat.withAfter_after, Function.update_self, e']
  change masked (v entry0) (block g (t.cast N_2)) j
    = masked (v entry0) (block g (blockNo ((win2_2.blk t).view.emb j))) (offBlock ((win2_2.blk t).view.emb j))
  rw [emb2_2, blockNo_inBlock, offBlock_inBlock]

/-- The body's obligation. -/
theorem body_obligation2 [∀ e, Nonempty (Elt F e)] :
    (rdat2 c v g o).BodyObligation (Ix := HIx 1) (Name := ℕ) (U := UU) (Lvl := ℕ) defs₀ 𝒱₀ none Set.univ := by
  intro t Y hY
  have e0 : Y 0 = v := finds2_0 c v g o t (Y 0) (hY 0)
  have e1 := finds2_1 c v g o t (Y 1) (hY 1)
  simp only [bigSep_W2]
  rw [show defs₀ .tc cfg2.body (cfg2.bodyArgs t (cfg2.slots t)) = bodyAt2 t from rfl]
  iintro ⟨HΦ, HO, H0, H1, H2⟩
  iapply (body2_run c (grid2.coords t) (st2_0 t) _ (st2_1 t) _ (st2_2 t) _ (Y 0) (Y 1)) $$ [H0 H1 H2 HΦ HO]
  isplitl [H0]
  · iexact H0
  isplitl [H1]
  · iexact H1
  isplitl [H2]
  · iexists (Y 2)
    iexact H2
  iintro ⟨H0, H1, H2⟩
  isplitl [HΦ]
  · iapply (show (rdat2 c v g o).Φ t.castSucc ⊢ (rdat2 c v g o).Φ t.succ from Entails.rfl) $$ HΦ
  isplitl [HO]
  · iapply (show (rdat2 c v g o).owesAt (Ix := HIx 1) none t.castSucc ⊢ (rdat2 c v g o).owesAt none t.succ from Entails.rfl) $$ HO
  isplitl [H0]
  · iexists (Y 0)
    isplitr
    · ipureintro; rfl
    · iexact H0
  isplitl [H1]
  · iexists (Y 1)
    isplitr
    · ipureintro; rfl
    · iexact H1
  · iexists (masked (Y 0 entry0) (Y 1))
    isplitr
    · ipureintro
      change masked (Y 0 entry0) (Y 1) = masked (v entry0) (block g (t.cast N_2))
      rw [e0, e1]
    · iexact H2

end Cert.Proof.MaskMul

end
-- ==== Proof.Passes.lean ====
/-
  The two passes as regions of the program: what each is entered from, and what it leaves.
-/
module

public import proofs.«01_k».proof.Proof.Merge
public import proofs.«01_k».proof.Proof.Pass2
public import Idealize.ShloMosaic.Lib.Pipeline.RegionArrays

@[expose] public section

noncomputable section

namespace Cert.Proof.MaskMul

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig (HIx 1) (Elt F) ℕ UU ℕ

variable (m : (ℓ : Loc nD τ sig) → Buf (Elt F) ℓ)

/-- No pipeline has a table to prefetch. -/
abbrev adm (p : Fin 2) : (pcfgs (F := F) p).Adm := (cfgs p).toPCfg_adm

/-- Both passes' proof data, from the launch memory. -/
def rdats : (p : Fin 2) → (c : Dev nD) → RDat τ (Elt F) (HIx 1) ℕ UU ℕ (Pipeline.pin (pcfgs (F := F)) adm p) c
  | 0 => fun c => rdat1 c (m (xLoc c)) (m (pLoc c))
  | 1 => fun c => rdat2 c (merged (minima (m (xLoc c)))) (m (xLoc c)) (m (oLoc c))

/-- The argument and the result, held whole. -/
abbrev xPts (d : Dev nD) (g : Buf (Elt F) (xLoc d)) : sProp 𝕄 := xLoc d ↦{fullShare} g
abbrev oPts (d : Dev nD) (o : Buf (Elt F) (oLoc d)) : sProp 𝕄 := oLoc d ↦{fullShare} o

/-- What the TensorCore owes before its `n`-th SparseCore call, its waits so far no higher than that call. -/
abbrev pending (d : Dev nD) (n : ℕ) : sProp 𝕄 :=
  iprop(∃ W, ⌜(K (F := F)).WBelow (T d) W (8 * n)⌝ ∗ owes (T d) ((K (F := F)).Otc d n) W)

theorem whole_pts (b : Ref sig .tc) (c : Dev nD) (f : Buf (Elt F) ((c : Thread nD τ).loc b)) :
    ((c : Thread nD τ).loc b ↦[(View.whole b : View sig .tc _ _ _).set]{fullShare} f : sProp 𝕄) = ((c : Thread nD τ).loc b ↦{fullShare} f) := by
  rw [View.set_whole]

theorem arrays1 (c : Dev nD) (g : Buf (Elt F) (xLoc c)) (y : Buf (Elt F) (pLoc c)) :
    (rdat1 c g y).arrays (rdat1 c g y).A = iprop(xPts c g ∗ pPts c y) := by
  unfold RDat.arrays
  rw [bigSep_W0]
  exact congrArg₂ _ (whole_pts main_arg0 c g) (whole_pts main_v0 c y)

theorem arrays2 (c : Dev nD) (v : Buf (Elt F) (mLoc c)) (g : Buf (Elt F) (xLoc c)) (o : Buf (Elt F) (oLoc c)) :
    (rdat2 c v g o).arrays (rdat2 c v g o).A = iprop(mPts c v ∗ xPts c g ∗ oPts c o) := by
  unfold RDat.arrays
  rw [bigSep_W2]
  exact congrArg₂ _ (whole_pts main_v1 c v) (congrArg₂ _ (whole_pts main_arg0 c g) (whole_pts main_v2 c o))

theorem arraysAt1 [∀ e, Nonempty (Elt F e)] (c : Dev nD) (g : Buf (Elt F) (xLoc c)) (y : Buf (Elt F) (pLoc c)) :
    (rdat1 c g y).arraysAt cfg0.N ⊢ iprop(xPts c g ∗ pPts c (minima g)) := by
  unfold RDat.arraysAt
  rw [bigSep_W0, (rdat1 c g y).ArrAt_in 0 rfl]
  iintro ⟨⟨%X, %hX, HX⟩, %Y, %hY, HY⟩
  have hX : X = g := hX
  have hY : Y = minima g := arr1 c g y Y hY
  subst hX
  rw [hY]
  isplitl [HX]
  · iapply (show ((cfg0.win 0).arr.view.loc (c : Thread nD τ) ↦[(cfg0.win 0).arr.view.set]{(rdat1 c X y).share 0} X : sProp 𝕄) ⊢ xPts c X
      from Entails.of_eq (whole_pts main_arg0 c _)) $$ HX
  · iapply (show ((cfg0.win 1).arr.view.loc (c : Thread nD τ) ↦[(cfg0.win 1).arr.view.set]{(rdat1 c X y).share 1} minima X : sProp 𝕄) ⊢ pPts c (minima X)
      from Entails.of_eq (whole_pts main_v0 c _)) $$ HY

theorem arraysAt2 [∀ e, Nonempty (Elt F e)] (c : Dev nD) (v : Buf (Elt F) (mLoc c)) (g : Buf (Elt F) (xLoc c)) (o : Buf (Elt F) (oLoc c)) :
    (rdat2 c v g o).arraysAt cfg2.N
      ⊢ iprop(mPts c v ∗ xPts c g ∗ oPts c fun j => masked (v entry0) (block g (blockNo j)) (offBlock j)) := by
  unfold RDat.arraysAt
  rw [bigSep_W2, (rdat2 c v g o).ArrAt_in 0 rfl, (rdat2 c v g o).ArrAt_in 1 rfl]
  iintro ⟨⟨%Z, %hZ, HZ⟩, ⟨%X, %hX, HX⟩, %Y, %hY, HY⟩
  have hX : X = g := hX
  have hZ : Z = v := hZ
  have hY := arr2 c v g o Y hY
  subst hX hZ
  rw [hY]
  isplitl [HZ]
  · iapply (show ((cfg2.win 0).arr.view.loc (c : Thread nD τ) ↦[(cfg2.win 0).arr.view.set]{(rdat2 c Z X o).share 0} Z : sProp 𝕄) ⊢ mPts c Z
      from Entails.of_eq (whole_pts main_v1 c _)) $$ HZ
  isplitl [HX]
  · iapply (show ((cfg2.win 1).arr.view.loc (c : Thread nD τ) ↦[(cfg2.win 1).arr.view.set]{(rdat2 c Z X o).share 1} X : sProp 𝕄) ⊢ xPts c X
      from Entails.of_eq (whole_pts main_arg0 c _)) $$ HX
  · iapply (show ((cfg2.win 2).arr.view.loc (c : Thread nD τ) ↦[(cfg2.win 2).arr.view.set]{(rdat2 c Z X o).share 2} (fun j => masked (Z entry0) (block X (blockNo j)) (offBlock j)) : sProp 𝕄) ⊢ oPts c fun j => masked (Z entry0) (block X (blockNo j)) (offBlock j)
      from Entails.of_eq (whole_pts main_v2 c _)) $$ HY

/-- The waits of a pass's transfers are below all a TensorCore owes. -/
theorem waits (p : Fin 2) (c : Dev nD) :
    (levAts (K (F := F)).L (K (F := F)).lev : sProp 𝕄) ⊢ Pipeline.RDat.cellsWaits (Pipeline.pin pcfgs adm) (rdats m) none p c := by
  refine Pipeline.RDat.cellsWaits_of_cut (Pipeline.pin pcfgs adm) (rdats m) none p c 0 ((K (F := F)).Otc c p.val) (fun t => ?_)
    (fun _ _ => Finset.mem_univ _) (fun _ _ => le_rfl)
    (fun g i hg => ⟨Finset.mem_univ _, Nat.lt_of_lt_of_le (Nat.succ_pos _) (SparseCore.Cfg.lev_of_Otc_pos hg)⟩)
  match p with
  | 0 => rfl
  | 1 => rfl

/-- Waits below a call, with the loop's own, are below the call. -/
theorem pending_enter (c : Dev nD) (n : ℕ) (S : Set (SemLoc sig × HIx 1)) :
    pending (F := F) c n ⊢ Pipeline.owesWithin c ((K (F := F)).Otc c n) (recordedBy (F := F) c n ∪ S) := by
  unfold Pipeline.owesWithin
  iintro ⟨%W, %hW, HO⟩
  iexists W
  isplitr
  · ipureintro; exact fun p hp => Or.inl (hW p hp)
  · iexact HO

theorem pending_leave (c : Dev nD) (n : ℕ) (cfg : Pipeline.Cfg sig Λ₀) :
    Pipeline.owesWithin c ((K (F := F)).Otc c n) (recordedBy (F := F) c n ∪ cfg.waitPairs (none : HIx 1)) ⊢ pending (F := F) c n := by
  unfold Pipeline.owesWithin
  iintro ⟨%W, %hW, HO⟩
  iexists W
  isplitr
  · ipureintro
    intro p hp
    rcases hW hp with h | ⟨w, s, rfl⟩
    · exact h
    · exact Nat.zero_le _
  · iexact HO

/-- The first pass: the argument is kept, and the minima's array, whatever it held, is left holding the block minima. -/
def region1 [∀ e, Nonempty (Elt F e)] :
    RDat.RegionSeg (pcfgs (F := F)) adm (rdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation1 c _ _
  hwaits := waits m 0
  pre c := iprop((xPts c (m (xLoc c)) ∗ pPts c (m (pLoc c))) ∗ pending c 0)
  post c := iprop((xPts c (m (xLoc c)) ∗ pPts c (minima (m (xLoc c)))) ∗ pending c 0)
  X _ := iprop(emp)
  Y _ := iprop(emp)
  Z _ := iprop(emp)
  hentry c := by
    rw [Pipeline.ownSems0_none, Pipeline.prefHeld_of_none _ rfl]
    iintro ⟨⟨HA, HO⟩, -, -⟩
    imodintro
    isplitl [HA]
    · iapply (Entails.of_eq (arrays1 c (m (xLoc c)) (m (pLoc c))).symm) $$ HA
    isplitr
    · iempintro
    isplitl [HO]
    · iapply (pending_enter c 0 _) $$ HO
    isplitr
    · iempintro
    · iempintro
  hin c := by
    rw [Pipeline.prefHeld_of_none _ rfl]
    refine BIBase.Entails.trans ?_ (show Pipeline.scopedRest (Ix := HIx 1) (Name := ℕ) (U := UU) (Lvl := ℕ) (Val := Elt F) spec0 c ⊢ (rdats m 0 c).Φ 0 from Entails.rfl)
    iintro ⟨-, -, H⟩
    iexact H
  hout c := by
    rw [Pipeline.ownSems0_none]
    refine (show _ ⊢ Pipeline.scopedRest (Ix := HIx 1) (Name := ℕ) (U := UU) (Lvl := ℕ) (Val := Elt F) spec0 c from Entails.rfl).trans ?_
    iintro H
    isplitr
    · iempintro
    isplitr
    · iempintro
    · iexact H
  hexit c := by
    refine (BIClass.sep_mono (arraysAt1 c _ _) (BIClass.sep_mono (pending_leave c 0 cfg0) .rfl)).trans ?_
    iintro ⟨HA, HO, -, -⟩
    imodintro
    isplitl [HA]
    · iexact HA
    · iexact HO

/-- The second pass: the merged minimum and the argument are kept, and the result's array is left holding the result. -/
def region2 [∀ e, Nonempty (Elt F e)] :
    RDat.RegionSeg (pcfgs (F := F)) adm (rdats m) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body_obligation2 c _ _ _
  hwaits := waits m 1
  pre c := iprop((mPts c (merged (minima (m (xLoc c)))) ∗ xPts c (m (xLoc c)) ∗ oPts c (m (oLoc c))) ∗ pending c 1)
  post c := iprop((mPts c (merged (minima (m (xLoc c)))) ∗ xPts c (m (xLoc c)) ∗ oPts c (result (m (xLoc c)))) ∗ pending c 1)
  X _ := iprop(emp)
  Y _ := iprop(emp)
  Z _ := iprop(emp)
  hentry c := by
    rw [Pipeline.ownSems0_none, Pipeline.prefHeld_of_none _ rfl]
    iintro ⟨⟨HA, HO⟩, -, -⟩
    imodintro
    isplitl [HA]
    · iapply (Entails.of_eq (arrays2 c (merged (minima (m (xLoc c)))) (m (xLoc c)) (m (oLoc c))).symm) $$ HA
    isplitr
    · iempintro
    isplitl [HO]
    · iapply (pending_enter c 1 _) $$ HO
    isplitr
    · iempintro
    · iempintro
  hin c := by
    rw [Pipeline.prefHeld_of_none _ rfl]
    refine BIBase.Entails.trans ?_ (show Pipeline.scopedRest (Ix := HIx 1) (Name := ℕ) (U := UU) (Lvl := ℕ) (Val := Elt F) spec2 c ⊢ (rdats m 1 c).Φ 0 from Entails.rfl)
    iintro ⟨-, -, H⟩
    iexact H
  hout c := by
    rw [Pipeline.ownSems0_none]
    refine (show _ ⊢ Pipeline.scopedRest (Ix := HIx 1) (Name := ℕ) (U := UU) (Lvl := ℕ) (Val := Elt F) spec2 c from Entails.rfl).trans ?_
    iintro H
    isplitr
    · iempintro
    isplitr
    · iempintro
    · iexact H
  hexit c := by
    refine (BIClass.sep_mono (arraysAt2 c _ _ _) (BIClass.sep_mono (pending_leave c 1 cfg2) .rfl)).trans ?_
    iintro ⟨HA, HO, -, -⟩
    imodintro
    isplitl [HA]
    · iexact HA
    · iexact HO

end Cert.Proof.MaskMul

end
-- ==== Proof.Run.lean ====
/-
  The program's run: the first pass, the SparseCore call and the second pass in order, from any launch memory. It ends
  with the argument unchanged, the result's array at `result`, and every semaphore at zero.
-/
module

public import proofs.«01_k».proof.Proof.MergeCall
public import proofs.«01_k».proof.Proof.Passes

@[expose] public section

noncomputable section

namespace Cert.Proof.MaskMul

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## A pass, from @main -/

/-- What a pass's transfers start from. -/
abbrev start (p : Fin 2) (d : Dev nD) : sProp 𝕄 :=
  iprop(Pipeline.cellsGhost (Pipeline.pin (pcfgs (F := F)) adm) EP p d ∗ Pipeline.toksInit (Pipeline.pin (pcfgs (F := F)) adm) EP p d)

theorem cells_distinct : Function.Injective (Pipeline.cellOf (nD := nD) (τ := τ) (Pipeline.pin (pcfgs (F := F)) adm)) := cellOf_inj

/-- A pass called from @main: from the boundary, its entry state and what its transfers start from, to the boundary and
    its exit state. -/
theorem pass_run [∀ e, Nonempty (Elt F e)] {p : Fin 2}
    (R : RDat.RegionSeg (pcfgs (F := F)) adm (rdats m) none defs₀ 𝒱₀ (K (F := F)).L (K (F := F)).lev p) (d : Dev nD) (Φ : PUnit → sProp 𝕄) :
    iprop(levAts (K (F := F)).L (K (F := F)).lev ∗ boundary (T d) ∗ R.pre d ∗ start p d ∗ ((boundary (T d) ∗ R.post d) -∗ Φ ⟨⟩))
      ⊢ wp frame (wpE ((K (F := F)).defs (D (F := F))) 𝒱 (T d) none) Set.univ
          (Prog.lift (.customCall (SparseCore.inner (Pipeline.entry p)) ())) Φ := by
  have e : (Prog.lift (.customCall (SparseCore.inner (Pipeline.entry p)) ()) : Prog (TpuEff nD τ sig (Elt F) (SparseCore.Sig (ΛP (F := F)) 1) .tc) PUnit)
      = SparseCore.liftProg (.op (.customCall (Pipeline.entry p) ()) fun _ => .ret ⟨⟩) := rfl
  have hl := (K (F := F)).wp_liftProg (Name := ℕ) (U := UU) (D (F := F)) 𝒱 (T d) Set.univ none
    (.op (.customCall (Pipeline.entry p) ()) fun _ => .ret ⟨⟩) Φ
  rw [e]
  refine BIBase.Entails.trans ?_ hl
  have h := RDat.RegionSeg.wp (pcfgs (F := F)) adm (rdats m) none cells_distinct EP defs₀ 𝒱₀
    (K (F := F)).L (K (F := F)).lev R d none (fun _ h => nomatch h) (fun _ => (.ret ⟨⟩ : Prog _ PUnit)) Φ
  refine BIBase.Entails.trans ?_ h
  iintro ⟨HL, Hb, Hpre, ⟨Hg, Ht⟩, Hk⟩
  isplitl [Hk]
  · iintro H
    rw [wp_ret]
    imodintro
    iapply Hk $$ H
  isplitl [Hb]
  · iexact Hb
  isplitl [Hpre]
  · iexact Hpre
  isplitl [HL]
  · iexact HL
  isplitl [Hg]
  · iexact Hg
  · iexact Ht

/-- The first pass, from @main; -/
theorem pass1_run [∀ e, Nonempty (Elt F e)] (d : Dev nD) (Φ : PUnit → sProp 𝕄) :
    iprop(levAts (K (F := F)).L (K (F := F)).lev ∗ boundary (T d) ∗ ((xPts d (m (xLoc d)) ∗ pPts d (m (pLoc d))) ∗ pending d 0) ∗ start 0 d
        ∗ ((boundary (T d) ∗ (xPts d (m (xLoc d)) ∗ pPts d (minima (m (xLoc d)))) ∗ pending d 0) -∗ Φ ⟨⟩))
      ⊢ wp frame (wpE ((K (F := F)).defs (D (F := F))) 𝒱 (T d) none) Set.univ
          (Prog.lift (.customCall (SparseCore.inner (Pipeline.entry 0)) ())) Φ := pass_run m (region1 m) d Φ

/-- the second. -/
theorem pass2_run [∀ e, Nonempty (Elt F e)] (d : Dev nD) (Φ : PUnit → sProp 𝕄) :
    iprop(levAts (K (F := F)).L (K (F := F)).lev ∗ boundary (T d)
        ∗ ((mPts d (merged (minima (m (xLoc d)))) ∗ xPts d (m (xLoc d)) ∗ oPts d (m (oLoc d))) ∗ pending d 1) ∗ start 1 d
        ∗ ((boundary (T d) ∗ (mPts d (merged (minima (m (xLoc d)))) ∗ xPts d (m (xLoc d)) ∗ oPts d (result (m (xLoc d)))) ∗ pending d 1) -∗ Φ ⟨⟩))
      ⊢ wp frame (wpE ((K (F := F)).defs (D (F := F))) 𝒱 (T d) none) Set.univ
          (Prog.lift (.customCall (SparseCore.inner (Pipeline.entry 1)) ())) Φ := pass_run m (region2 m) d Φ

/-! ## The launch element of the ghost state -/

def u₀ : UU := (initOf (K (F := F)).hsCells (K (F := F)).hsToks,
  (initOf (Pipeline.cells (nD := nD) (τ := τ) (Pipeline.pin (pcfgs (F := F)) adm) cellOf_inj)
    (Pipeline.launchToks (nD := nD) (τ := τ) (Pipeline.pin (pcfgs (F := F)) adm) cellOf_inj), 1))

/-- What each device's two passes start from. -/
abbrev starts (d : Dev nD) : sProp 𝕄 := iprop(start 0 d ∗ start 1 d)

theorem starts_of :
    iprop((bigSep Finset.univ fun d : Dev nD => bigSep Finset.univ fun p => Pipeline.cellsGhost (Pipeline.pin (pcfgs (F := F)) adm) EP p d)
        ∗ bigSep Finset.univ fun d : Dev nD => bigSep Finset.univ fun p => Pipeline.toksInit (Pipeline.pin (pcfgs (F := F)) adm) EP p d)
      ⊢ (bigSep Finset.univ fun d : Dev nD => starts (F := F) d : sProp 𝕄) := by
  rw [bigSep_univ_of_subsingleton (0 : Dev nD), bigSep_univ_of_subsingleton (0 : Dev nD), bigSep_univ_of_subsingleton (0 : Dev nD),
    bigSep_W0, bigSep_W0]
  iintro ⟨⟨Hg0, Hg1⟩, Ht0, Ht1⟩
  isplitl [Hg0 Ht0]
  · isplitl [Hg0]
    · iexact Hg0
    · iexact Ht0
  · isplitl [Hg1]
    · iexact Hg1
    · iexact Ht1

theorem hu₀ : (ownU (u₀ (F := F)) : sProp 𝕄)
    ⊢ |={Set.univ}=> iprop(BI.own (EH (initOf (K (F := F)).hsCells (K (F := F)).hsToks)) ∗ (bigSep Finset.univ fun d : Dev nD => starts (F := F) d)
        ∗ bigSep Finset.univ fun thr : Thread nD τ => bigSep Finset.univ fun q : Fin 1 => (P m).x q thr) := by
  unfold u₀
  refine (ownU_parts _ _).trans ?_
  iintro ⟨HH, HP⟩
  imod (Pipeline.fund_ghost (Pipeline.pin (pcfgs (F := F)) adm) EP cellOf_inj) $$ HP with ⟨Hg, Ht⟩
  imodintro
  isplitl [HH]
  · iexact HH
  isplitl [Hg Ht]
  · iapply (starts_of (F := F)) $$ [Hg Ht]
    isplitl [Hg]
    · iexact Hg
    · iexact Ht
  · rw [show (bigSep Finset.univ fun thr : Thread nD τ => bigSep Finset.univ fun q : Fin 1 => (P (F := F) m).x q thr)
      = bigSep Finset.univ fun _ => (iprop(emp) : sProp 𝕄) from bigSep_congr fun _ _ => bigSep_nothing _, bigSep_nothing]
    iempintro

/-! ## @main -/

theorem unscopedBufs_eq (d : Dev nD) (W : (b : Ref sig .tc) → Buf (Elt F) ((d.tc : Thread nD τ).loc b)) :
    (unscopedBufs d W : sProp 𝕄) = iprop(xPts d (W main_arg0) ∗ pPts d (W main_v0) ∗ mPts d (W main_v1) ∗ oPts d (W main_v2)) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- What the TensorCore owes, taken out of its state and put back. -/
theorem tcSt_open (d : Dev nD) (n : ℕ) :
    ((K (F := F)).tcSt EH d n : sProp 𝕄) ⊢ iprop(pending d n ∗ (pending d n -∗ (K (F := F)).tcSt EH d n)) := by
  unfold SparseCore.Cfg.tcSt
  iintro ⟨HO, Hr⟩
  isplitl [HO]
  · iexact HO
  iintro HO
  isplitl [HO]
  · iexact HO
  · iexact Hr

/-- What @main leaves: the argument as it was, and the result. -/
abbrev FIN (d : Dev nD) : sProp 𝕄 := iprop(xPts d (m (xLoc d)) ∗ oPts d (result (m (xLoc d))))

/-- @main on device `d`: the first pass, the SparseCore call, the second pass. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ starts d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hp, Hm, Ho⟩, Hts, -⟩, ⟨Hs0, Hs1⟩⟩
  ihave #HL := (SparseCore.Cfg.ctx_levAts κ) $$ Hctx
  -- the first pass
  ihave Hst := (tcSt_open d 0) $$ Hst
  icases Hst with ⟨HO, Hst⟩
  iapply (pass1_run m d) $$ [Hb Hx Hp HO Hs0 Hst Hm Ho Hts Hs1]
  isplitr
  · iexact HL
  isplitl [Hb]
  · iexact Hb
  isplitl [Hx Hp HO]
  · isplitl [Hx Hp]
    · isplitl [Hx]
      · iexact Hx
      · iexact Hp
    · iexact HO
  isplitl [Hs0]
  · iexact Hs0
  iintro ⟨Hb, ⟨Hx, Hp⟩, HO⟩
  ispecialize Hst $$ HO
  -- the SparseCore call
  iapply ((K (F := F)).wp_run (D (F := F)) 𝒱 (EH := EH) (P := P m) κ d 0) $$ [Hst Hp Hm Hb Hx Ho Hts Hs1]
  isplitr
  · iexact Hctx
  isplitl [Hst]
  · iexact Hst
  isplitl [Hp Hm]
  · rw [st0_eq]
    isplitl [Hp]
    · iexact Hp
    · iexact Hm
  iintro ⟨Hst, Hdn⟩
  ihave Hdn := (Entails.of_eq (dn0_eq m d)) $$ Hdn
  icases Hdn with ⟨-, Hm⟩
  -- the second pass
  ihave Hst := (show (K (F := F)).tcSt EH d ((0 : Fin 1).val + 1) ⊢ iprop(pending d 1 ∗ (pending d 1 -∗ (K (F := F)).tcSt EH d 1)) from tcSt_open d 1) $$ Hst
  icases Hst with ⟨HO, Hst⟩
  iapply (pass2_run m d) $$ [Hb Hx Hm HO Hs1 Hst Ho Hts]
  isplitr
  · iexact HL
  isplitl [Hb]
  · iexact Hb
  isplitl [Hx Hm Ho HO]
  · isplitl [Hx Hm Ho]
    · isplitl [Hm]
      · iexact Hm
      isplitl [Hx]
      · iexact Hx
      · iexact Ho
    · iexact HO
  isplitl [Hs1]
  · iexact Hs1
  iintro ⟨Hb, ⟨-, Hx, Ho⟩, HO⟩
  ispecialize Hst $$ HO
  imodintro
  isplitl [Hst]
  · iexact Hst
  isplitl [Hx Ho]
  · isplitl [Hx]
    · iexact Hx
    · iexact Ho
  isplitl [Hb]
  · iexact Hb
  · iexact Hts

/-! ## The run -/

/-- What the final memory is: the argument as it was, and the result. -/
def atEnd (d : Dev nD) (s : Phys nD τ sig (Elt F)) : Prop :=
  s.mem.mem (xLoc d) = m (xLoc d) ∧ s.mem.mem (oLoc d) = result (m (xLoc d))

theorem hfin (d : Dev nD) (s : Phys nD τ sig (Elt F)) : iprop(FIN m d ∗ SI s) ⊢ (⌜atEnd m d s⌝ : sProp 𝕄) := by
  iintro ⟨⟨Hx, Ho⟩, HSI⟩
  ihave H := (persistent_entails_right (SI_pointsTo_agree (st := s) (ℓ := xLoc d) (I := Finset.univ) (q := fullShare) (f := m (xLoc d)))) $$ [HSI Hx]
  · isplitl [HSI]
    · iexact HSI
    · iexact Hx
  icases H with ⟨%hx, HSI, -⟩
  ihave H := (SI_pointsTo_agree (st := s) (ℓ := oLoc d) (I := Finset.univ) (q := fullShare) (f := result (m (xLoc d)))) $$ [HSI Ho]
  · isplitl [HSI]
    · iexact HSI
    · iexact Ho
  icases H with %ho
  ipureintro
  exact ⟨funext fun i => hx i (Finset.mem_univ i), funext fun i => ho i (Finset.mem_univ i)⟩

/-- Every run of the program ends, the argument unchanged, the result's array at `result` of it, every semaphore at zero. -/
theorem run_main [∀ e, Nonempty (Elt F e)] :
    θ_run (Cert.KernelIdeal.defs (F := F)) (Cert.KernelIdeal.threads (F := F)) ⟨m, fun _ => 0, ρ⟩
      (fun r => (∀ d : Dev nD, r.2.mem (xLoc d) = m (xLoc d) ∧ r.2.mem (oLoc d) = result (m (xLoc d))) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => starts d) (FIN m) (u₀ (F := F)) (sep_elim_left.trans (hu₀ m)) (hmain m ρ) (atEnd m) (hfin m) _
    (fun _ h hz => ⟨h, hz⟩)

end Cert.Proof.MaskMul

end
-- ==== Proof.Least.lean ====
/-
  Least elements in the extended reals: what a running minimum, and a stable sort's first entry, are.
-/
module

public import Idealize.ShloMosaic.PureOps.Ideal
public import Idealize.ShloMosaic.Lib.SortFacts

@[expose] public section

namespace Cert.Proof.MaskMul

open Idealize.ShloMosaic

/-- A running minimum is below its start and below every entry, and is one of them. -/
theorem foldl_min_spec {ι : Type} (f : ι → EReal) : ∀ (l : List ι) (c : EReal),
    l.foldl (fun r n => min r (f n)) c ≤ c ∧ (∀ n ∈ l, l.foldl (fun r n => min r (f n)) c ≤ f n)
      ∧ (l.foldl (fun r n => min r (f n)) c = c ∨ ∃ n ∈ l, l.foldl (fun r n => min r (f n)) c = f n)
  | [], c => ⟨le_refl c, fun n h => absurd h List.not_mem_nil, Or.inl rfl⟩
  | a :: l, c => by
    obtain ⟨h1, h2, h3⟩ := foldl_min_spec f l (min c (f a))
    simp only [List.foldl_cons]
    refine ⟨h1.trans (min_le_left _ _), fun n hn => ?_, ?_⟩
    · rcases List.mem_cons.1 hn with rfl | hn
      · exact h1.trans (min_le_right _ _)
      · exact h2 n hn
    · rcases h3 with h3 | ⟨n, hn, h3⟩
      · rcases min_choice c (f a) with hc | hc
        · exact .inl (h3.trans hc)
        · exact .inr ⟨a, List.mem_cons_self .., h3.trans hc⟩
      · exact .inr ⟨n, List.mem_cons_of_mem _ hn, h3⟩

/-- A running minimum from an entry is the least of the entries. -/
theorem isLeast_foldl_min {ι : Type} (f : ι → EReal) (l : List ι) (a : ι) (hl : ∀ n, n = a ∨ n ∈ l) :
    IsLeast (Set.range f) (l.foldl (fun r n => min r (f n)) (f a)) := by
  obtain ⟨h1, h2, h3⟩ := foldl_min_spec f l (f a)
  refine ⟨?_, ?_⟩
  · rcases h3 with h3 | ⟨n, _, h3⟩
    · exact ⟨a, h3.symm⟩
    · exact ⟨n, h3.symm⟩
  · rintro _ ⟨n, rfl⟩
    rcases hl n with rfl | hn
    · exact h1
    · exact h2 n hn

/-- A running minimum from `⊤` over every index is the least of the entries, if there is one. -/
theorem isLeast_foldl_min_top {ι : Type} [Nonempty ι] (f : ι → EReal) (l : List ι) (hl : ∀ n, n ∈ l) :
    IsLeast (Set.range f) (l.foldl (fun r n => min r (f n)) ⊤) := by
  obtain ⟨_, h2, h3⟩ := foldl_min_spec f l ⊤
  refine ⟨?_, by rintro _ ⟨n, rfl⟩; exact h2 n (hl n)⟩
  rcases h3 with h3 | ⟨n, _, h3⟩
  · obtain ⟨n⟩ := ‹Nonempty ι›
    exact ⟨n, (top_le_iff.1 (h3 ▸ h2 n (hl n))).trans h3.symm⟩
  · exact ⟨n, h3.symm⟩

/-- The least of the parts' least entries is the least entry. -/
theorem isLeast_parts {κ ι J : Type} (f : J → EReal) (part : κ → ι → J) (hp : ∀ j, ∃ k i, part k i = j)
    (v : κ → EReal) (hv : ∀ k, IsLeast (Set.range fun i => f (part k i)) (v k)) (w : EReal)
    (hw : IsLeast (Set.range v) w) : IsLeast (Set.range f) w := by
  obtain ⟨⟨k, rfl⟩, hle⟩ := hw
  refine ⟨?_, ?_⟩
  · obtain ⟨i, hi⟩ := (hv k).1
    exact ⟨_, hi⟩
  · rintro _ ⟨j, rfl⟩
    obtain ⟨k', i, rfl⟩ := hp j
    exact (hle ⟨k', rfl⟩).trans ((hv k').2 ⟨i, rfl⟩)

/-- The first entry of a stable sort of `f` by `<` is the least of its entries. -/
theorem isLeast_sortedFrom {n : Nat} (hn : 0 < n) (f : Fin n → EReal) (B : Fin n → Fin n → Bool)
    (hB : ∀ k k', B k k' = true ↔ f k < f k') : IsLeast (Set.range f) (f (sortedFrom B ⟨0, hn⟩)) := by
  refine ⟨⟨_, rfl⟩, ?_⟩
  rintro _ ⟨k, rfl⟩
  obtain ⟨j, rfl⟩ := sortedFrom_surjective B k
  have hF : ∀ k k', B k k' = false ↔ f k' ≤ f k := fun k k' => by
    rw [← Bool.not_eq_true, hB, not_lt]
  by_cases hj : j = ⟨0, hn⟩
  · rw [hj]
  · exact (hF _ _).1 (sortedFrom_noInversion B B (fun a b h => (hF b a).2 ((hB a b).1 h).le) (fun _ _ h => h)
      (fun a b c h h' => (hF a c).2 (((hF b c).1 h').trans ((hF a b).1 h))) ⟨0, hn⟩ j
      (Nat.pos_of_ne_zero fun h => hj (Fin.ext h)))

end Cert.Proof.MaskMul
-- ==== Proof.KernelValue.lean ====
/-
  The kernel's value over the extended reals: where the mean magnitude of the two planes is at least the least mean
  magnitude of all positions, the argument, and elsewhere zero times it.
-/
module

public import proofs.«01_k».proof.Proof.Values
public import proofs.«01_k».proof.Proof.Least
public import Idealize.ShloMosaic.Lib.Pointwise
public import Idealize.ShloMosaic.PureOps.Reduce

@[expose] public section

noncomputable section

namespace Cert.Proof.MaskMul

open Cert.KernelIdeal Cert.KernelIdeal.Gen

open Idealize.ShloMosaic

/-- The mean magnitude of two entries. -/
def mean (a b : EReal) : EReal := (max a (-a) + max b (-b)) * ((1 / 2 : ℝ) : EReal)

/-- One at the truth of a comparison and zero otherwise. -/
def keep (v w : EReal) : EReal := if w ≤ v then 1 else 0

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inf : Ideal.ofBits .f32 0x7F800000#32 = ⊤ := by
  simp [Ideal.ofBits, Ideal.ieee]

theorem sitofp_keep (v w : EReal) :
    FloatOps.sitofp (F := Ideal) FTy.f32 (BitVec.setWidth 32 (BitVec.ofBool (decide (w ≤ v)))) = keep v w := by
  unfold keep
  by_cases h : w ≤ v
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

/-- The masked plane, at a position. -/
theorem k2_apply (v : Elt Ideal .f32) (a b x : Vec Ideal S1x256x2048 .f32) (j : S1x256x2048.Idx) :
    k2_pay2 v a b x j = (x j : EReal) * keep (mean (a j) (b j)) v := by
  idx_vars j
  obtain rfl : j0 = 0 := Subsingleton.elim _ _
  pointwise [k2_pay2, k2_pay1]
  rw [sitofp_keep, ofBits_half]
  rfl

/-- The mean magnitudes of a block, as the first pass reduces them. -/
def blockMeans (a b : Vec Ideal S1x256x2048 .f32) : FVec Ideal S1x256x2048 .f32 :=
  shapeCast S1x256x2048 (mulf (addf (absf (shapeCast S256x2048 a shapeCasts_S1x256x2048_S256x2048))
    (absf (shapeCast S256x2048 b shapeCasts_S1x256x2048_S256x2048))) (broadcast S256x2048 (Scalar.ofBits .f32 0x3F000000#32)))
    shapeCasts_S256x2048_S1x256x2048

theorem blockMeans_apply (a b : Vec Ideal S1x256x2048 .f32) (j : S1x256x2048.Idx) : blockMeans a b j = mean (a j) (b j) := by
  idx_vars j
  obtain rfl : j0 = 0 := Subsingleton.elim _ _
  pointwise [blockMeans]
  rw [ofBits_half]
  rfl

/-- A block's minimum is the least of its mean magnitudes. -/
theorem k0_isLeast (a b : Vec Ideal S1x256x2048 .f32) :
    IsLeast (Set.range fun j => mean (a j) (b j)) (k0_pay1 a b) := by
  have e : k0_pay1 a b = extractAt ![0, 0, 0] (shapeCast S1x1x1 (multiReduction .minimumf [1, 2] S1 (blockMeans a b) 0x7F800000#32
      reduces_S1x256x2048_S1 (.inl rfl) rfl) shapeCasts_S1_S1x1x1) inpos_S1x1x1_p0_0_0 := rfl
  unfold extractAt shapeCast at e
  replace e := e.trans (congrFun (multiReduction_minimumf_eq_reduceFold (blockMeans a b) _ reduces_S1x256x2048_S1 (.inl rfl) rfl) _)
  rw [e, reduceFold_eq_foldl_of_size_one _ (fun b => by revert b; decide)]
  simp only [blockMeans_apply, Ideal.minimumf_def, Ideal.ofBits_def, ofBits_inf]
  haveI : Nonempty S1x256x2048.Idx := ⟨ix3 0 0 0⟩
  exact isLeast_foldl_min_top _ _ fun n => List.mem_map.2 ⟨S1x256x2048.rowMajor n, List.mem_finRange _, Equiv.symm_apply_apply _ _⟩

/-- The merged minimum is the least of the 32 entries. -/
theorem merged_isLeast (y : S32.Idx → Elt Ideal .f32) (j : S16.Idx) :
    IsLeast (Set.range fun t => (y t : EReal)) (merged y j) := by
  refine isLeast_parts (fun t => (y t : EReal)) (fun (k : Fin 16) (h : Bool) => bif h then lowHalf (ix1 k) else highHalf (ix1 k)) ?_
    (fun k => min (y (lowHalf (ix1 k))) (y (highHalf (ix1 k)))) ?_ _ ?_
  · intro t
    have ht := (t 0).isLt
    change (t 0).val < 32 at ht
    by_cases h : (t 0).val < 16
    · exact ⟨⟨(t 0).val, h⟩, true, by funext a; obtain rfl : a = 0 := Subsingleton.elim _ _; exact Fin.ext rfl⟩
    · refine ⟨⟨(t 0).val - 16, by omega⟩, false, ?_⟩
      funext a; obtain rfl : a = 0 := Subsingleton.elim _ _
      exact Fin.ext (show 16 + ((t 0).val - 16) = (t 0).val by omega)
  · intro k
    refine isLeast_foldl_min (fun h : Bool => (y (bif h then lowHalf (ix1 k) else highHalf (ix1 k)) : EReal)) [false] true ?_
    decide
  · have e : merged y j = [1, 2, 3, 4, 5, 6, 7, 8, 9, 10, 11, 12, 13, 14, 15].foldl
        (fun r (k : Fin 16) => min r (min (y (lowHalf (ix1 k))) (y (highHalf (ix1 k)))))
        (min (y (lowHalf (ix1 0))) (y (highHalf (ix1 0)))) := by
      unfold merged
      pointwise [k1_pay1, k1_pay2]
    rw [e]
    exact isLeast_foldl_min _ _ 0 (by decide)

/-- The mean magnitude at a position of the array's planes. -/
def means (g : S2x8192x2048.Idx → EReal) (p : Fin 8192 × Fin 2048) : EReal := mean (g (ix3 0 p.1 p.2)) (g (ix3 1 p.1 p.2))

/-- A position of block `t`'s planes, in the array's planes. -/
def ofBlock (t : S32.Idx) (j : S1x256x2048.Idx) : Fin 8192 × Fin 2048 :=
  (⟨(t 0).val * 256 + (j 1).val, by
    have := (t 0).isLt; change (t 0).val < 32 at this
    have := (j 1).isLt; change (j 1).val < 256 at this
    omega⟩, j 2)

theorem plane_block (g : S2x8192x2048.Idx → Elt Ideal .f32) (t : S32.Idx) (p : Fin 2) (j : S1x256x2048.Idx) :
    plane (block g (t 0)) p j = g (ix3 p (ofBlock t j).1 (ofBlock t j).2) := by
  refine congrArg g (funext fun a => ?_)
  match a with
  | 0 => rfl
  | 1 => rfl
  | 2 => rfl

/-- The threshold the kernel merges is the least mean magnitude. -/
theorem threshold_isLeast (g : S2x8192x2048.Idx → Elt Ideal .f32) :
    IsLeast (Set.range (means g)) (merged (minima g) entry0) := by
  refine isLeast_parts (means g) ofBlock ?_ (fun t => minima g t) ?_ _ (merged_isLeast _ _)
  · rintro ⟨r, c⟩
    have hr := r.isLt
    refine ⟨ix1 ⟨r.val / 256, by omega⟩, ix3 0 ⟨r.val % 256, Nat.mod_lt _ (by decide)⟩ c, ?_⟩
    exact Prod.ext (Fin.ext (Nat.div_add_mod' r.val 256)) rfl
  · intro t
    have h := k0_isLeast (plane (block g (t 0)) 0) (plane (block g (t 0)) 1)
    simp only [plane_block] at h
    exact h

/-- The kernel's result at a position. -/
theorem result_apply (g : S2x8192x2048.Idx → Elt Ideal .f32) (p : Fin 2) (r : Fin 8192) (c : Fin 2048) :
    result g (ix3 p r c) = (g (ix3 p r c) : EReal) * keep (means g (r, c)) (merged (minima g) entry0) := by
  have e : ∀ q : Fin 2, plane (block g (blockNo (ix3 p r c))) q (inPlane (offBlock (ix3 p r c))) = g (ix3 q r c) := fun q => by
    refine congrArg g (funext fun a => ?_)
    match a with
    | 0 => rfl
    | 1 => exact Fin.ext (Nat.div_add_mod' r.val 256)
    | 2 => rfl
  unfold result masked
  rw [k2_apply, e, e]
  exact congrArg (fun x : EReal => x * keep (means g (r, c)) (merged (minima g) entry0)) (e p)

end Cert.Proof.MaskMul

end
-- ==== Proof.RefValue.lean ====
/-
  The reference's value over the extended reals: the same mask, its threshold the first entry of the sorted mean
  magnitudes, which is the least of them.
-/
module

public import proofs.«01_k».proof.Proof.KernelValue
public import proofs.«01_k».proof.Proof.Gen.ReferenceIdeal.Run

@[expose] public section

noncomputable section

namespace Cert.Proof.MaskMul

open Cert.ReferenceIdeal Cert.ReferenceIdeal.Gen

open Idealize.ShloMosaic

/-- The reference's mean magnitudes, -/
def refMeans (g : FVec Ideal S2x8192x2048 .f32) : FVec Ideal S1x8192x2048 .f32 :=
  Host.divf (broadcastInDim S1x8192x2048 ![1, 2] bcast_S8192x2048_S1x8192x2048_1_2 (Host.reduceAdd (Host.absf g) (constant S_ .f32 0x00000000#32) reducesTo_S2x8192x2048_S8192x2048_d0 h_S_)) (broadcastInDim S1x8192x2048 ![] bcast_S_S1x8192x2048 (constant S_ .f32 0x40000000#32))

/-- its threshold, -/
def refThreshold (g : FVec Ideal S2x8192x2048 .f32) : FVec Ideal S_ .f32 :=
  shapeCast _ (extractStridedSlice S1 ![0] (Host.sort S16777216 0 comparator_f32_d0 (shapeCast _ (refMeans g) shapeCasts_S1x8192x2048_S16777216)) slices_S16777216_S1_0) shapeCasts_S1_S_

/-- and its result. -/
def refResult (g : FVec Ideal S2x8192x2048 .f32) : FVec Ideal S2x8192x2048 .f32 :=
  mulf g (broadcastInDim S2x8192x2048 ![0, 1, 2] bcast_S1x8192x2048_S2x8192x2048_0_1_2 (uitofp .f32 (cmpf .oge (refMeans g) (broadcastInDim S1x8192x2048 ![] bcast_S_S1x8192x2048 (refThreshold g)))))

/-- Half of a sum of two magnitudes, the sum divided by two. -/
theorem div_two (x : EReal) : Ideal.div x ((2 : ℝ) : EReal) = x * ((1 / 2 : ℝ) : EReal) := Ideal.div_coe (by norm_num) x

theorem refMeans_apply (g : FVec Ideal S2x8192x2048 .f32) (r : Fin 8192) (c : Fin 2048) :
    refMeans g (ix3 0 r c) = means g (r, c) := by
  pointwise [refMeans]
  rw [ofBits_two, div_two, Fin.sum_univ_two]
  rfl

/-- The sort's comparator is the order. -/
theorem comparator_iff (x y : Ideal .f32) : (comparator_f32_d0 x y == 1#1) = true ↔ (x : EReal) < y := by
  have hs : ∀ z : Ideal .f32, Scalar.select (FloatOps.cmpf .une z z) (FloatOps.ofBits .f32 0x7FC00000#32 : Ideal .f32)
      (Scalar.select (FloatOps.cmpf .oeq z (FloatOps.ofBits .f32 0x00000000#32)) (FloatOps.ofBits .f32 0x00000000#32) z) = z := by
    intro z
    have h1 : FloatOps.cmpf (F := Ideal) .une z z = 0#1 := by
      show BitVec.ofBool (decide ((z : EReal) ≠ z)) = 0#1
      simp
    rw [h1]
    by_cases h : (z : EReal) = (FloatOps.ofBits .f32 0x00000000#32 : Ideal .f32)
    · have h2 : FloatOps.cmpf (F := Ideal) .oeq z (FloatOps.ofBits .f32 0x00000000#32) = 1#1 :=
        congrArg BitVec.ofBool (decide_eq_true h)
      rw [h2]
      exact h.symm
    · have h2 : FloatOps.cmpf (F := Ideal) .oeq z (FloatOps.ofBits .f32 0x00000000#32) = 0#1 :=
        congrArg BitVec.ofBool (decide_eq_false h)
      rw [h2]
      rfl
  unfold comparator_f32_d0
  simp only [hs]
  show (BitVec.ofBool (decide ((x : EReal) < y)) == 1#1) = true ↔ (x : EReal) < y
  by_cases h : (x : EReal) < y <;> simp [h]

/-- The place of a position among all positions, row by row, and back. -/
def flat (k : Fin 16777216) : Fin 8192 × Fin 2048 :=
  (⟨k.val / 2048, by have := k.isLt; omega⟩, ⟨k.val % 2048, Nat.mod_lt _ (by decide)⟩)

theorem flat_surjective (p : Fin 8192 × Fin 2048) : ∃ k, flat k = p := by
  obtain ⟨r, c⟩ := p
  have := r.isLt; have := c.isLt
  refine ⟨⟨r.val * 2048 + c.val, by omega⟩, Prod.ext (Fin.ext ?_) (Fin.ext ?_)⟩
  · change (r.val * 2048 + c.val) / 2048 = r.val; omega
  · change (r.val * 2048 + c.val) % 2048 = c.val; omega

theorem refMeans_flat (g : FVec Ideal S2x8192x2048 .f32) (k : Fin 16777216) :
    shapeCast S16777216 (refMeans g) shapeCasts_S1x8192x2048_S16777216 (Shape.Idx.ofFin k) = means g (flat k) := by
  have e : (Shape.Idx.ofFin k : S16777216.Idx) = ix1 k := by
    funext a; obtain rfl : a = 0 := Subsingleton.elim _ _; rfl
  rw [e]
  pointwise
  exact refMeans_apply g _ _

/-- The reference's threshold is the least mean magnitude. -/
theorem refThreshold_isLeast (g : FVec Ideal S2x8192x2048 .f32) (i : S_.Idx) :
    IsLeast (Set.range (means g)) (refThreshold g i) := by
  have e : refThreshold g i = Host.sort S16777216 0 comparator_f32_d0 (shapeCast S16777216 (refMeans g) shapeCasts_S1x8192x2048_S16777216) (ix1 0) := by
    pointwise [refThreshold]
  have h := isLeast_sortedFrom (n := 16777216) (by decide) (fun k => means g (flat k))
    (fun k k' => comparator_f32_d0 (F := Ideal) (means g (flat k)) (means g (flat k')) == 1#1) (fun _ _ => comparator_iff _ _)
  rw [e, Host.sort_rank1]
  simp only [refMeans_flat]
  obtain ⟨h1, h2⟩ := h
  refine ⟨?_, ?_⟩
  · obtain ⟨k, hk⟩ := h1
    exact ⟨flat k, hk⟩
  · rintro _ ⟨p, rfl⟩
    obtain ⟨k, rfl⟩ := flat_surjective p
    exact h2 ⟨k, rfl⟩

theorem uitofp_keep (v w : EReal) : FloatOps.uitofp (F := Ideal) FTy.f32 (BitVec.ofBool (decide (w ≤ v))) = keep v w := by
  unfold keep
  by_cases h : w ≤ v
  · rw [if_pos h, decide_eq_true h]
    show (((BitVec.ofBool true).toNat : ℝ) : EReal) = 1
    simp
  · rw [if_neg h, decide_eq_false h]
    show (((BitVec.ofBool false).toNat : ℝ) : EReal) = 0
    simp

theorem refResult_apply (g : FVec Ideal S2x8192x2048 .f32) (p : Fin 2) (r : Fin 8192) (c : Fin 2048) :
    refResult g (ix3 p r c) = (g (ix3 p r c) : EReal) * keep (means g (r, c)) (refThreshold g ix0) := by
  pointwise [refResult]
  rw [uitofp_keep, refMeans_apply]

/-- The kernel's result is the reference's. -/
theorem result_eq (g : S2x8192x2048.Idx → Elt Ideal .f32) : result g = refResult g := by
  funext j
  idx_vars j
  rw [result_apply, refResult_apply, (threshold_isLeast g).unique (refThreshold_isLeast g ix0)]

end Cert.Proof.MaskMul

end
-- ==== Proof.Same.lean ====
/-
  No operation is rewritten in the idealized kernel, so the two printed programs are one text in two namespaces. This
  module proves them equal, over any float values: the procedures one by one, then the assembled definitions and the
  threads. A run proved of the one is then a run of the other.
-/
module

public import proofs.«01_k».proof.Defs
public import proofs.«01_k».proof.Proof.Gen.Kernel
public import proofs.«01_k».proof.Proof.Gen.KernelIdeal

@[expose] public section

noncomputable section

namespace Cert.Proof.MaskMul

open Idealize.ShloMosaic Idealize.SL.Sem

variable {F : FTy → Type} [FloatOps F]

set_option maxHeartbeats 400000

/-- Each procedure has the same body in both programs, on each kind of processor. -/
theorem procedure_eq (p : Proc Cert.Kernel.τ) (l : Fin 3) (a : Cert.Kernel.Λ₀.Args l) :
    Cert.Kernel.defs₀ (F := F) p l a = Cert.KernelIdeal.defs₀ p l a := by
  match p, l, a with
  | .tc, 0, (t, s) => rfl
  | .tc, 1, _ => rfl
  | .tc, 2, (t, s) => rfl
  | .scVector c s, 0, _ => rfl
  | .scVector c s, 1, _ => rfl
  | .scVector c s, 2, _ => rfl
  | .scScalar c, 0, _ => rfl
  | .scScalar c, 1, _ => rfl
  | .scScalar c, 2, _ => rfl

/-- So the definitions, with the pipelines and the SparseCore call around those procedures, are the same. -/
theorem defs_eq : Cert.Kernel.defs (F := F) = Cert.KernelIdeal.defs := by
  have h : Cert.Kernel.defs₀ (F := F) = Cert.KernelIdeal.defs₀ :=
    funext fun p => funext fun l => funext fun a => procedure_eq p l a
  unfold Cert.Kernel.defs Cert.KernelIdeal.defs
  exact congrArg (fun d => (Cert.KernelIdeal.sc (F := F)).defs (Pipeline.defs Cert.KernelIdeal.pcfgs d)) h

/-- And the threads that the launch starts are the same. -/
theorem threads_eq : Cert.Kernel.threads (F := F) = Cert.KernelIdeal.threads := by
  rfl

end Cert.Proof.MaskMul

end
-- ==== Proof.lean ====
/-
  The five claims, assembled: the kernel's run (Proof/Run.lean) gives the frames of the kernel and of its idealization,
  the reference's generated run gives its own, and the equality of the two values (Proof/RefValue.lean) gives the value
  claim. It ends in `Cert.Proof.claim`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.RefValue
public import proofs.«01_k».proof.Proof.Same
public import Idealize.ShloMosaic.Adequacy
public import Idealize.ShloMosaic.Init

@[expose] public section

noncomputable section

namespace Cert.Proof

open Idealize.ShloMosaic Idealize.SL.Sem
open Cert.Proof.MaskMul

set_option maxHeartbeats 400000

/-- The printed kernel runs, leaves its argument alone and ends with every semaphore at zero: it is the idealized
    kernel's text (Proof/Same.lean), whose run is `run_main`, here over the bit-exact floats. -/
theorem frame_kernel : Cert.quiescent_Kernel := by
  intro m ρ _
  rw [defs_eq, threads_eq]
  exact (θ_run Cert.KernelIdeal.defs _ _).mono (fun _ h => ⟨fun c => (h.1 c).1, h.2⟩) (run_main (F := Bits) m ρ)

/-- The same of the idealized kernel, over the extended reals. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The reference runs and leaves its argument alone; it declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From equal arguments both end with the masked product: the kernel with `result` of its argument (`run_main`), the
    reference with `refResult` of it, and the two are equal element by element (`result_eq`). -/
theorem same_result : Cert.algebraic_KernelIdeal_ReferenceIdeal := by
  intro m ρ m' ρ' _ hm
  refine ⟨fun c => result (m (xLoc c)), ?_, ?_⟩
  · exact (θ_run Cert.KernelIdeal.defs _ _).mono (fun _ h c => ⟨(h.1 c).2, (h.1 c).1⟩) (run_main (F := Ideal) m ρ)
  · refine (θ_run Cert.ReferenceIdeal.defs _ _).mono (fun _ h c => ⟨?_, (h c).2⟩)
      (Cert.ReferenceIdeal.Value.run (F := Ideal) m' ρ')
    refine (h c).1.trans ?_
    rw [hm c]
    exact (result_eq (m (xLoc c))).symm

/-- Everything that the certificate claims. -/
theorem claim : Cert.Claim :=
  ⟨Cert.Kernel.Gen.facts, Cert.KernelIdeal.Gen.facts, Cert.ReferenceIdeal.Gen.facts, frame_kernel, frame_kernelIdeal,
    frame_referenceIdeal, trivial, same_result⟩

end Cert.Proof

end
